-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x5120 : Shape := ⟨3, ![32, 1, 5120]⟩
abbrev S35840x20x2x64 : Shape := ⟨4, ![35840, 20, 2, 64]⟩
abbrev S35840x20x2x32 : Shape := ⟨4, ![35840, 20, 2, 32]⟩
abbrev S35840x20x16 : Shape := ⟨3, ![35840, 20, 16]⟩
abbrev S35840x20 : Shape := ⟨2, ![35840, 20]⟩
abbrev S32x5120 : Shape := ⟨2, ![32, 5120]⟩
abbrev S20x2x64x35840 : Shape := ⟨4, ![20, 2, 64, 35840]⟩
abbrev S2560x35840 : Shape := ⟨2, ![2560, 35840]⟩
abbrev S20x2x32x35840 : Shape := ⟨4, ![20, 2, 32, 35840]⟩
abbrev S1280x35840 : Shape := ⟨2, ![1280, 35840]⟩
abbrev S20x16x35840 : Shape := ⟨3, ![20, 16, 35840]⟩
abbrev S20x35840 : Shape := ⟨2, ![20, 35840]⟩
abbrev S32x35840 : Shape := ⟨2, ![32, 35840]⟩
abbrev S2560x1024 : Shape := ⟨2, ![2560, 1024]⟩
abbrev S1280x1024 : Shape := ⟨2, ![1280, 1024]⟩
abbrev S20x16x1024 : Shape := ⟨3, ![20, 16, 1024]⟩
abbrev S20x1024 : Shape := ⟨2, ![20, 1024]⟩
abbrev S32x1024 : Shape := ⟨2, ![32, 1024]⟩
abbrev S320x1024 : Shape := ⟨2, ![320, 1024]⟩
abbrev S1x16x1024 : Shape := ⟨3, ![1, 16, 1024]⟩
abbrev S16x1024 : Shape := ⟨2, ![16, 1024]⟩
abbrev S1x1024 : Shape := ⟨2, ![1, 1024]⟩
abbrev S32x256 : Shape := ⟨2, ![32, 256]⟩
abbrev S32x128 : Shape := ⟨2, ![32, 128]⟩
abbrev S8x128 : Shape := ⟨2, ![8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 13
  | .vmem => 12
  | .smem => 0
  | _ => 0

abbrev bufTy : (tb : Table) → Fin (tcTables nBuf tb) → BufTy
  | .hbm, ⟨0, _⟩ => ⟨S32x1x5120, .bf16⟩
  | .hbm, ⟨1, _⟩ => ⟨S35840x20x2x64, .i8⟩
  | .hbm, ⟨2, _⟩ => ⟨S35840x20x2x32, .i8⟩
  | .hbm, ⟨3, _⟩ => ⟨S35840x20x16, .i8⟩
  | .hbm, ⟨4, _⟩ => ⟨S35840x20, .i16⟩
  | .hbm, ⟨5, _⟩ => ⟨S32x5120, .bf16⟩
  | .hbm, ⟨6, _⟩ => ⟨S20x2x64x35840, .i8⟩
  | .hbm, ⟨7, _⟩ => ⟨S2560x35840, .i8⟩
  | .hbm, ⟨8, _⟩ => ⟨S20x2x32x35840, .i8⟩
  | .hbm, ⟨9, _⟩ => ⟨S1280x35840, .i8⟩
  | .hbm, ⟨10, _⟩ => ⟨S20x16x35840, .i8⟩
  | .hbm, ⟨11, _⟩ => ⟨S20x35840, .i16⟩
  | .hbm, ⟨12, _⟩ => ⟨S32x35840, .bf16⟩
  | .local _ .vmem, ⟨0, _⟩ => ⟨S32x5120, .bf16⟩
  | .local _ .vmem, ⟨1, _⟩ => ⟨S2560x1024, .i8⟩
  | .local _ .vmem, ⟨2, _⟩ => ⟨S2560x1024, .i8⟩
  | .local _ .vmem, ⟨3, _⟩ => ⟨S1280x1024, .i8⟩
  | .local _ .vmem, ⟨4, _⟩ => ⟨S1280x1024, .i8⟩
  | .local _ .vmem, ⟨5, _⟩ => ⟨S20x16x1024, .i8⟩
  | .local _ .vmem, ⟨6, _⟩ => ⟨S20x16x1024, .i8⟩
  | .local _ .vmem, ⟨7, _⟩ => ⟨S20x1024, .i16⟩
  | .local _ .vmem, ⟨8, _⟩ => ⟨S20x1024, .i16⟩
  | .local _ .vmem, ⟨9, _⟩ => ⟨S32x1024, .bf16⟩
  | .local _ .vmem, ⟨10, _⟩ => ⟨S32x1024, .bf16⟩
  | .local _ .vmem, ⟨11, _⟩ => ⟨S320x1024, .f32⟩
  | _, _ => ⟨S32x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![35], ![false]⟩

@[reducible] def k0_t1_loop : Scf.Loop 32 :=
  let c0_i32_65 : BitVec 32 := 0#32
  let c4_i32 : BitVec 32 := 4#32
  let v250 : BitVec 32 := Scalar.addi c0_i32_65 c4_i32
  let c1_i32 : BitVec 32 := 1#32
  ⟨c0_i32_65, v250, c1_i32⟩
def k0_mult1 (k0_t1 : Fin k0_t1_loop.trips) : BitVec 32 :=
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  v251
def k0_off1 (k0_t1 : Fin k0_t1_loop.trips) (c0_i32_68 : BitVec 32) : Fin 2 → Nat :=
  let c0_69 : Index := 0#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v255 : Index := Scalar.indexCast v254
  ![0, v255.toNat]
def k0_off2 (k0_t1 : Fin k0_t1_loop.trips) (c0_i32_68 : BitVec 32) : Fin 2 → Nat :=
  let c32_70 : Index := 32#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v259 : Index := Scalar.indexCast v254
  ![32, v259.toNat]
def k0_off3 (k0_t1 : Fin k0_t1_loop.trips) (c0_i32_68 : BitVec 32) : Fin 2 → Nat :=
  let c0_71 : Index := 0#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v263 : Index := Scalar.indexCast v254
  ![0, v263.toNat]
def k0_off4 (k0_t1 : Fin k0_t1_loop.trips) (c0_i32_68 : BitVec 32) : Fin 2 → Nat :=
  let c0_77 : Index := 0#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v291 : Index := Scalar.indexCast v254
  ![0, v291.toNat]
def k0_off5 (k0_t1 : Fin k0_t1_loop.trips) (c0_i32_68 : BitVec 32) : Fin 2 → Nat :=
  let c1_78 : Index := 1#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v298 : Index := Scalar.indexCast v254
  ![1, v298.toNat]
def k0_off6 (k0_t1 : Fin k0_t1_loop.trips) (c0_i32_68 : BitVec 32) : Fin 2 → Nat :=
  let c2_82 : Index := 2#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v315 : Index := Scalar.indexCast v254
  ![2, v315.toNat]
def k0_off7 (k0_t1 : Fin k0_t1_loop.trips) (c0_i32_68 : BitVec 32) : Fin 2 → Nat :=
  let c3_83 : Index := 3#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v322 : Index := Scalar.indexCast v254
  ![3, v322.toNat]
def k0_off8 (k0_t1 : Fin k0_t1_loop.trips) (c0_i32_68 : BitVec 32) : Fin 2 → Nat :=
  let c4_87 : Index := 4#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v339 : Index := Scalar.indexCast v254
  ![4, v339.toNat]
def k0_off9 (k0_t1 : Fin k0_t1_loop.trips) (c0_i32_68 : BitVec 32) : Fin 2 → Nat :=
  let c5_88 : Index := 5#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v346 : Index := Scalar.indexCast v254
  ![5, v346.toNat]
def k0_off10 (k0_t1 : Fin k0_t1_loop.trips) (c0_i32_68 : BitVec 32) : Fin 2 → Nat :=
  let c6_92 : Index := 6#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v363 : Index := Scalar.indexCast v254
  ![6, v363.toNat]
def k0_off11 (k0_t1 : Fin k0_t1_loop.trips) (c0_i32_68 : BitVec 32) : Fin 2 → Nat :=
  let c7_93 : Index := 7#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v370 : Index := Scalar.indexCast v254
  ![7, v370.toNat]
def k0_off12 (k0_t1 : Fin k0_t1_loop.trips) (c0_i32_68 : BitVec 32) : Fin 2 → Nat :=
  let c64_94 : Index := 64#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v377 : Index := Scalar.indexCast v254
  ![64, v377.toNat]
def k0_off13 (k0_t1 : Fin k0_t1_loop.trips) (c0_i32_68 : BitVec 32) : Fin 2 → Nat :=
  let c96_95 : Index := 96#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v381 : Index := Scalar.indexCast v254
  ![96, v381.toNat]
def k0_off14 (k0_t1 : Fin k0_t1_loop.trips) (c0_i32_68 : BitVec 32) : Fin 2 → Nat :=
  let c32_96 : Index := 32#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v385 : Index := Scalar.indexCast v254
  ![32, v385.toNat]
def k0_off15 (k0_t1 : Fin k0_t1_loop.trips) (c0_i32_68 : BitVec 32) : Fin 2 → Nat :=
  let c8_107 : Index := 8#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v413 : Index := Scalar.indexCast v254
  ![8, v413.toNat]
def k0_off16 (k0_t1 : Fin k0_t1_loop.trips) (c0_i32_68 : BitVec 32) : Fin 2 → Nat :=
  let c9_108 : Index := 9#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v420 : Index := Scalar.indexCast v254
  ![9, v420.toNat]
def k0_off17 (k0_t1 : Fin k0_t1_loop.trips) (c0_i32_68 : BitVec 32) : Fin 2 → Nat :=
  let c10_112 : Index := 10#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v437 : Index := Scalar.indexCast v254
  ![10, v437.toNat]
def k0_off18 (k0_t1 : Fin k0_t1_loop.trips) (c0_i32_68 : BitVec 32) : Fin 2 → Nat :=
  let c11_113 : Index := 11#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v444 : Index := Scalar.indexCast v254
  ![11, v444.toNat]
def k0_off19 (k0_t1 : Fin k0_t1_loop.trips) (c0_i32_68 : BitVec 32) : Fin 2 → Nat :=
  let c12_117 : Index := 12#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v461 : Index := Scalar.indexCast v254
  ![12, v461.toNat]
def k0_off20 (k0_t1 : Fin k0_t1_loop.trips) (c0_i32_68 : BitVec 32) : Fin 2 → Nat :=
  let c13_118 : Index := 13#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v468 : Index := Scalar.indexCast v254
  ![13, v468.toNat]
def k0_off21 (k0_t1 : Fin k0_t1_loop.trips) (c0_i32_68 : BitVec 32) : Fin 2 → Nat :=
  let c14_122 : Index := 14#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v485 : Index := Scalar.indexCast v254
  ![14, v485.toNat]
def k0_off22 (k0_t1 : Fin k0_t1_loop.trips) (c0_i32_68 : BitVec 32) : Fin 2 → Nat :=
  let c15_123 : Index := 15#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v254 : BitVec 32 := Scalar.addi v252 c0_i32_68
  let v492 : Index := Scalar.indexCast v254
  ![15, v492.toNat]
def k0_off23 (k0_t1 : Fin k0_t1_loop.trips) (c0_i32_187 : BitVec 32) : Fin 2 → Nat :=
  let c128_188 : Index := 128#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v752 : Index := Scalar.indexCast v751
  ![128, v752.toNat]
def k0_off24 (k0_t1 : Fin k0_t1_loop.trips) (c0_i32_187 : BitVec 32) : Fin 2 → Nat :=
  let c160_189 : Index := 160#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v756 : Index := Scalar.indexCast v751
  ![160, v756.toNat]
def k0_off25 (k0_t1 : Fin k0_t1_loop.trips) (c0_i32_187 : BitVec 32) : Fin 2 → Nat :=
  let c64_190 : Index := 64#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v760 : Index := Scalar.indexCast v751
  ![64, v760.toNat]
def k0_off26 (k0_t1 : Fin k0_t1_loop.trips) (c0_i32_187 : BitVec 32) : Fin 2 → Nat :=
  let c16_201 : Index := 16#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v788 : Index := Scalar.indexCast v751
  ![16, v788.toNat]
def k0_off27 (k0_t1 : Fin k0_t1_loop.trips) (c0_i32_187 : BitVec 32) : Fin 2 → Nat :=
  let c17_202 : Index := 17#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v795 : Index := Scalar.indexCast v751
  ![17, v795.toNat]
def k0_off28 (k0_t1 : Fin k0_t1_loop.trips) (c0_i32_187 : BitVec 32) : Fin 2 → Nat :=
  let c18_206 : Index := 18#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v812 : Index := Scalar.indexCast v751
  ![18, v812.toNat]
def k0_off29 (k0_t1 : Fin k0_t1_loop.trips) (c0_i32_187 : BitVec 32) : Fin 2 → Nat :=
  let c19_207 : Index := 19#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v819 : Index := Scalar.indexCast v751
  ![19, v819.toNat]
def k0_off30 (k0_t1 : Fin k0_t1_loop.trips) (c0_i32_187 : BitVec 32) : Fin 2 → Nat :=
  let c20 : Index := 20#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v836 : Index := Scalar.indexCast v751
  ![20, v836.toNat]
def k0_off31 (k0_t1 : Fin k0_t1_loop.trips) (c0_i32_187 : BitVec 32) : Fin 2 → Nat :=
  let c21 : Index := 21#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v843 : Index := Scalar.indexCast v751
  ![21, v843.toNat]
def k0_off32 (k0_t1 : Fin k0_t1_loop.trips) (c0_i32_187 : BitVec 32) : Fin 2 → Nat :=
  let c22 : Index := 22#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v860 : Index := Scalar.indexCast v751
  ![22, v860.toNat]
def k0_off33 (k0_t1 : Fin k0_t1_loop.trips) (c0_i32_187 : BitVec 32) : Fin 2 → Nat :=
  let c23 : Index := 23#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v867 : Index := Scalar.indexCast v751
  ![23, v867.toNat]
def k0_off34 (k0_t1 : Fin k0_t1_loop.trips) (c0_i32_187 : BitVec 32) : Fin 2 → Nat :=
  let c192_214 : Index := 192#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v874 : Index := Scalar.indexCast v751
  ![192, v874.toNat]
def k0_off35 (k0_t1 : Fin k0_t1_loop.trips) (c0_i32_187 : BitVec 32) : Fin 2 → Nat :=
  let c224_215 : Index := 224#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v878 : Index := Scalar.indexCast v751
  ![224, v878.toNat]
def k0_off36 (k0_t1 : Fin k0_t1_loop.trips) (c0_i32_187 : BitVec 32) : Fin 2 → Nat :=
  let c96_216 : Index := 96#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v882 : Index := Scalar.indexCast v751
  ![96, v882.toNat]
def k0_off37 (k0_t1 : Fin k0_t1_loop.trips) (c0_i32_187 : BitVec 32) : Fin 2 → Nat :=
  let c24 : Index := 24#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v910 : Index := Scalar.indexCast v751
  ![24, v910.toNat]
def k0_off38 (k0_t1 : Fin k0_t1_loop.trips) (c0_i32_187 : BitVec 32) : Fin 2 → Nat :=
  let c25 : Index := 25#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v917 : Index := Scalar.indexCast v751
  ![25, v917.toNat]
def k0_off39 (k0_t1 : Fin k0_t1_loop.trips) (c0_i32_187 : BitVec 32) : Fin 2 → Nat :=
  let c26 : Index := 26#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v934 : Index := Scalar.indexCast v751
  ![26, v934.toNat]
def k0_off40 (k0_t1 : Fin k0_t1_loop.trips) (c0_i32_187 : BitVec 32) : Fin 2 → Nat :=
  let c27 : Index := 27#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v941 : Index := Scalar.indexCast v751
  ![27, v941.toNat]
def k0_off41 (k0_t1 : Fin k0_t1_loop.trips) (c0_i32_187 : BitVec 32) : Fin 2 → Nat :=
  let c28 : Index := 28#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v958 : Index := Scalar.indexCast v751
  ![28, v958.toNat]
def k0_off42 (k0_t1 : Fin k0_t1_loop.trips) (c0_i32_187 : BitVec 32) : Fin 2 → Nat :=
  let c29 : Index := 29#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v965 : Index := Scalar.indexCast v751
  ![29, v965.toNat]
def k0_off43 (k0_t1 : Fin k0_t1_loop.trips) (c0_i32_187 : BitVec 32) : Fin 2 → Nat :=
  let c30 : Index := 30#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v982 : Index := Scalar.indexCast v751
  ![30, v982.toNat]
def k0_off44 (k0_t1 : Fin k0_t1_loop.trips) (c0_i32_187 : BitVec 32) : Fin 2 → Nat :=
  let c31 : Index := 31#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v751 : BitVec 32 := Scalar.addi v252 c0_i32_187
  let v989 : Index := Scalar.indexCast v751
  ![31, v989.toNat]
def k0_off45 (k0_t1 : Fin k0_t1_loop.trips) (c0_i32_300 : BitVec 32) : Fin 2 → Nat :=
  let c256_301 : Index := 256#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1249 : Index := Scalar.indexCast v1248
  ![256, v1249.toNat]
def k0_off46 (k0_t1 : Fin k0_t1_loop.trips) (c0_i32_300 : BitVec 32) : Fin 2 → Nat :=
  let c288_302 : Index := 288#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1253 : Index := Scalar.indexCast v1248
  ![288, v1253.toNat]
def k0_off47 (k0_t1 : Fin k0_t1_loop.trips) (c0_i32_300 : BitVec 32) : Fin 2 → Nat :=
  let c128_303 : Index := 128#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1257 : Index := Scalar.indexCast v1248
  ![128, v1257.toNat]
def k0_off48 (k0_t1 : Fin k0_t1_loop.trips) (c0_i32_300 : BitVec 32) : Fin 2 → Nat :=
  let c32_314 : Index := 32#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1285 : Index := Scalar.indexCast v1248
  ![32, v1285.toNat]
def k0_off49 (k0_t1 : Fin k0_t1_loop.trips) (c0_i32_300 : BitVec 32) : Fin 2 → Nat :=
  let c33 : Index := 33#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1292 : Index := Scalar.indexCast v1248
  ![33, v1292.toNat]
def k0_off50 (k0_t1 : Fin k0_t1_loop.trips) (c0_i32_300 : BitVec 32) : Fin 2 → Nat :=
  let c34 : Index := 34#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1309 : Index := Scalar.indexCast v1248
  ![34, v1309.toNat]
def k0_off51 (k0_t1 : Fin k0_t1_loop.trips) (c0_i32_300 : BitVec 32) : Fin 2 → Nat :=
  let c35 : Index := 35#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1316 : Index := Scalar.indexCast v1248
  ![35, v1316.toNat]
def k0_off52 (k0_t1 : Fin k0_t1_loop.trips) (c0_i32_300 : BitVec 32) : Fin 2 → Nat :=
  let c36 : Index := 36#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1333 : Index := Scalar.indexCast v1248
  ![36, v1333.toNat]
def k0_off53 (k0_t1 : Fin k0_t1_loop.trips) (c0_i32_300 : BitVec 32) : Fin 2 → Nat :=
  let c37 : Index := 37#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1340 : Index := Scalar.indexCast v1248
  ![37, v1340.toNat]
def k0_off54 (k0_t1 : Fin k0_t1_loop.trips) (c0_i32_300 : BitVec 32) : Fin 2 → Nat :=
  let c38 : Index := 38#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1357 : Index := Scalar.indexCast v1248
  ![38, v1357.toNat]
def k0_off55 (k0_t1 : Fin k0_t1_loop.trips) (c0_i32_300 : BitVec 32) : Fin 2 → Nat :=
  let c39 : Index := 39#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1364 : Index := Scalar.indexCast v1248
  ![39, v1364.toNat]
def k0_off56 (k0_t1 : Fin k0_t1_loop.trips) (c0_i32_300 : BitVec 32) : Fin 2 → Nat :=
  let c320 : Index := 320#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1371 : Index := Scalar.indexCast v1248
  ![320, v1371.toNat]
def k0_off57 (k0_t1 : Fin k0_t1_loop.trips) (c0_i32_300 : BitVec 32) : Fin 2 → Nat :=
  let c352 : Index := 352#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1375 : Index := Scalar.indexCast v1248
  ![352, v1375.toNat]
def k0_off58 (k0_t1 : Fin k0_t1_loop.trips) (c0_i32_300 : BitVec 32) : Fin 2 → Nat :=
  let c160_324 : Index := 160#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1379 : Index := Scalar.indexCast v1248
  ![160, v1379.toNat]
def k0_off59 (k0_t1 : Fin k0_t1_loop.trips) (c0_i32_300 : BitVec 32) : Fin 2 → Nat :=
  let c40 : Index := 40#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1407 : Index := Scalar.indexCast v1248
  ![40, v1407.toNat]
def k0_off60 (k0_t1 : Fin k0_t1_loop.trips) (c0_i32_300 : BitVec 32) : Fin 2 → Nat :=
  let c41 : Index := 41#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1414 : Index := Scalar.indexCast v1248
  ![41, v1414.toNat]
def k0_off61 (k0_t1 : Fin k0_t1_loop.trips) (c0_i32_300 : BitVec 32) : Fin 2 → Nat :=
  let c42 : Index := 42#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1431 : Index := Scalar.indexCast v1248
  ![42, v1431.toNat]
def k0_off62 (k0_t1 : Fin k0_t1_loop.trips) (c0_i32_300 : BitVec 32) : Fin 2 → Nat :=
  let c43 : Index := 43#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1438 : Index := Scalar.indexCast v1248
  ![43, v1438.toNat]
def k0_off63 (k0_t1 : Fin k0_t1_loop.trips) (c0_i32_300 : BitVec 32) : Fin 2 → Nat :=
  let c44 : Index := 44#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1455 : Index := Scalar.indexCast v1248
  ![44, v1455.toNat]
def k0_off64 (k0_t1 : Fin k0_t1_loop.trips) (c0_i32_300 : BitVec 32) : Fin 2 → Nat :=
  let c45 : Index := 45#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1462 : Index := Scalar.indexCast v1248
  ![45, v1462.toNat]
def k0_off65 (k0_t1 : Fin k0_t1_loop.trips) (c0_i32_300 : BitVec 32) : Fin 2 → Nat :=
  let c46 : Index := 46#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1479 : Index := Scalar.indexCast v1248
  ![46, v1479.toNat]
def k0_off66 (k0_t1 : Fin k0_t1_loop.trips) (c0_i32_300 : BitVec 32) : Fin 2 → Nat :=
  let c47 : Index := 47#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1248 : BitVec 32 := Scalar.addi v252 c0_i32_300
  let v1486 : Index := Scalar.indexCast v1248
  ![47, v1486.toNat]
def k0_off67 (k0_t1 : Fin k0_t1_loop.trips) (c0_i32_407 : BitVec 32) : Fin 2 → Nat :=
  let c384 : Index := 384#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1746 : Index := Scalar.indexCast v1745
  ![384, v1746.toNat]
def k0_off68 (k0_t1 : Fin k0_t1_loop.trips) (c0_i32_407 : BitVec 32) : Fin 2 → Nat :=
  let c416 : Index := 416#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1750 : Index := Scalar.indexCast v1745
  ![416, v1750.toNat]
def k0_off69 (k0_t1 : Fin k0_t1_loop.trips) (c0_i32_407 : BitVec 32) : Fin 2 → Nat :=
  let c192_408 : Index := 192#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1754 : Index := Scalar.indexCast v1745
  ![192, v1754.toNat]
def k0_off70 (k0_t1 : Fin k0_t1_loop.trips) (c0_i32_407 : BitVec 32) : Fin 2 → Nat :=
  let c48_419 : Index := 48#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1782 : Index := Scalar.indexCast v1745
  ![48, v1782.toNat]
def k0_off71 (k0_t1 : Fin k0_t1_loop.trips) (c0_i32_407 : BitVec 32) : Fin 2 → Nat :=
  let c49 : Index := 49#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1789 : Index := Scalar.indexCast v1745
  ![49, v1789.toNat]
def k0_off72 (k0_t1 : Fin k0_t1_loop.trips) (c0_i32_407 : BitVec 32) : Fin 2 → Nat :=
  let c50 : Index := 50#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1806 : Index := Scalar.indexCast v1745
  ![50, v1806.toNat]
def k0_off73 (k0_t1 : Fin k0_t1_loop.trips) (c0_i32_407 : BitVec 32) : Fin 2 → Nat :=
  let c51 : Index := 51#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1813 : Index := Scalar.indexCast v1745
  ![51, v1813.toNat]
def k0_off74 (k0_t1 : Fin k0_t1_loop.trips) (c0_i32_407 : BitVec 32) : Fin 2 → Nat :=
  let c52 : Index := 52#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1830 : Index := Scalar.indexCast v1745
  ![52, v1830.toNat]
def k0_off75 (k0_t1 : Fin k0_t1_loop.trips) (c0_i32_407 : BitVec 32) : Fin 2 → Nat :=
  let c53 : Index := 53#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1837 : Index := Scalar.indexCast v1745
  ![53, v1837.toNat]
def k0_off76 (k0_t1 : Fin k0_t1_loop.trips) (c0_i32_407 : BitVec 32) : Fin 2 → Nat :=
  let c54 : Index := 54#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1854 : Index := Scalar.indexCast v1745
  ![54, v1854.toNat]
def k0_off77 (k0_t1 : Fin k0_t1_loop.trips) (c0_i32_407 : BitVec 32) : Fin 2 → Nat :=
  let c55 : Index := 55#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1861 : Index := Scalar.indexCast v1745
  ![55, v1861.toNat]
def k0_off78 (k0_t1 : Fin k0_t1_loop.trips) (c0_i32_407 : BitVec 32) : Fin 2 → Nat :=
  let c448 : Index := 448#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1868 : Index := Scalar.indexCast v1745
  ![448, v1868.toNat]
def k0_off79 (k0_t1 : Fin k0_t1_loop.trips) (c0_i32_407 : BitVec 32) : Fin 2 → Nat :=
  let c480 : Index := 480#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1872 : Index := Scalar.indexCast v1745
  ![480, v1872.toNat]
def k0_off80 (k0_t1 : Fin k0_t1_loop.trips) (c0_i32_407 : BitVec 32) : Fin 2 → Nat :=
  let c224_429 : Index := 224#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1876 : Index := Scalar.indexCast v1745
  ![224, v1876.toNat]
def k0_off81 (k0_t1 : Fin k0_t1_loop.trips) (c0_i32_407 : BitVec 32) : Fin 2 → Nat :=
  let c56 : Index := 56#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1904 : Index := Scalar.indexCast v1745
  ![56, v1904.toNat]
def k0_off82 (k0_t1 : Fin k0_t1_loop.trips) (c0_i32_407 : BitVec 32) : Fin 2 → Nat :=
  let c57 : Index := 57#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1911 : Index := Scalar.indexCast v1745
  ![57, v1911.toNat]
def k0_off83 (k0_t1 : Fin k0_t1_loop.trips) (c0_i32_407 : BitVec 32) : Fin 2 → Nat :=
  let c58 : Index := 58#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1928 : Index := Scalar.indexCast v1745
  ![58, v1928.toNat]
def k0_off84 (k0_t1 : Fin k0_t1_loop.trips) (c0_i32_407 : BitVec 32) : Fin 2 → Nat :=
  let c59 : Index := 59#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1935 : Index := Scalar.indexCast v1745
  ![59, v1935.toNat]
def k0_off85 (k0_t1 : Fin k0_t1_loop.trips) (c0_i32_407 : BitVec 32) : Fin 2 → Nat :=
  let c60 : Index := 60#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1952 : Index := Scalar.indexCast v1745
  ![60, v1952.toNat]
def k0_off86 (k0_t1 : Fin k0_t1_loop.trips) (c0_i32_407 : BitVec 32) : Fin 2 → Nat :=
  let c61 : Index := 61#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1959 : Index := Scalar.indexCast v1745
  ![61, v1959.toNat]
def k0_off87 (k0_t1 : Fin k0_t1_loop.trips) (c0_i32_407 : BitVec 32) : Fin 2 → Nat :=
  let c62 : Index := 62#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1976 : Index := Scalar.indexCast v1745
  ![62, v1976.toNat]
def k0_off88 (k0_t1 : Fin k0_t1_loop.trips) (c0_i32_407 : BitVec 32) : Fin 2 → Nat :=
  let c63 : Index := 63#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v1745 : BitVec 32 := Scalar.addi v252 c0_i32_407
  let v1983 : Index := Scalar.indexCast v1745
  ![63, v1983.toNat]
def k0_off89 (k0_t1 : Fin k0_t1_loop.trips) (c0_i32_512 : BitVec 32) : Fin 2 → Nat :=
  let c512_513 : Index := 512#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2243 : Index := Scalar.indexCast v2242
  ![512, v2243.toNat]
def k0_off90 (k0_t1 : Fin k0_t1_loop.trips) (c0_i32_512 : BitVec 32) : Fin 2 → Nat :=
  let c544 : Index := 544#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2247 : Index := Scalar.indexCast v2242
  ![544, v2247.toNat]
def k0_off91 (k0_t1 : Fin k0_t1_loop.trips) (c0_i32_512 : BitVec 32) : Fin 2 → Nat :=
  let c256_514 : Index := 256#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2251 : Index := Scalar.indexCast v2242
  ![256, v2251.toNat]
def k0_off92 (k0_t1 : Fin k0_t1_loop.trips) (c0_i32_512 : BitVec 32) : Fin 2 → Nat :=
  let c64_525 : Index := 64#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2279 : Index := Scalar.indexCast v2242
  ![64, v2279.toNat]
def k0_off93 (k0_t1 : Fin k0_t1_loop.trips) (c0_i32_512 : BitVec 32) : Fin 2 → Nat :=
  let c65 : Index := 65#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2286 : Index := Scalar.indexCast v2242
  ![65, v2286.toNat]
def k0_off94 (k0_t1 : Fin k0_t1_loop.trips) (c0_i32_512 : BitVec 32) : Fin 2 → Nat :=
  let c66 : Index := 66#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2303 : Index := Scalar.indexCast v2242
  ![66, v2303.toNat]
def k0_off95 (k0_t1 : Fin k0_t1_loop.trips) (c0_i32_512 : BitVec 32) : Fin 2 → Nat :=
  let c67 : Index := 67#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2310 : Index := Scalar.indexCast v2242
  ![67, v2310.toNat]
def k0_off96 (k0_t1 : Fin k0_t1_loop.trips) (c0_i32_512 : BitVec 32) : Fin 2 → Nat :=
  let c68 : Index := 68#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2327 : Index := Scalar.indexCast v2242
  ![68, v2327.toNat]
def k0_off97 (k0_t1 : Fin k0_t1_loop.trips) (c0_i32_512 : BitVec 32) : Fin 2 → Nat :=
  let c69 : Index := 69#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2334 : Index := Scalar.indexCast v2242
  ![69, v2334.toNat]
def k0_off98 (k0_t1 : Fin k0_t1_loop.trips) (c0_i32_512 : BitVec 32) : Fin 2 → Nat :=
  let c70 : Index := 70#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2351 : Index := Scalar.indexCast v2242
  ![70, v2351.toNat]
def k0_off99 (k0_t1 : Fin k0_t1_loop.trips) (c0_i32_512 : BitVec 32) : Fin 2 → Nat :=
  let c71 : Index := 71#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2358 : Index := Scalar.indexCast v2242
  ![71, v2358.toNat]
def k0_off100 (k0_t1 : Fin k0_t1_loop.trips) (c0_i32_512 : BitVec 32) : Fin 2 → Nat :=
  let c576 : Index := 576#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2365 : Index := Scalar.indexCast v2242
  ![576, v2365.toNat]
def k0_off101 (k0_t1 : Fin k0_t1_loop.trips) (c0_i32_512 : BitVec 32) : Fin 2 → Nat :=
  let c608 : Index := 608#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2369 : Index := Scalar.indexCast v2242
  ![608, v2369.toNat]
def k0_off102 (k0_t1 : Fin k0_t1_loop.trips) (c0_i32_512 : BitVec 32) : Fin 2 → Nat :=
  let c288_535 : Index := 288#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2373 : Index := Scalar.indexCast v2242
  ![288, v2373.toNat]
def k0_off103 (k0_t1 : Fin k0_t1_loop.trips) (c0_i32_512 : BitVec 32) : Fin 2 → Nat :=
  let c72 : Index := 72#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2401 : Index := Scalar.indexCast v2242
  ![72, v2401.toNat]
def k0_off104 (k0_t1 : Fin k0_t1_loop.trips) (c0_i32_512 : BitVec 32) : Fin 2 → Nat :=
  let c73 : Index := 73#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2408 : Index := Scalar.indexCast v2242
  ![73, v2408.toNat]
def k0_off105 (k0_t1 : Fin k0_t1_loop.trips) (c0_i32_512 : BitVec 32) : Fin 2 → Nat :=
  let c74 : Index := 74#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2425 : Index := Scalar.indexCast v2242
  ![74, v2425.toNat]
def k0_off106 (k0_t1 : Fin k0_t1_loop.trips) (c0_i32_512 : BitVec 32) : Fin 2 → Nat :=
  let c75 : Index := 75#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2432 : Index := Scalar.indexCast v2242
  ![75, v2432.toNat]
def k0_off107 (k0_t1 : Fin k0_t1_loop.trips) (c0_i32_512 : BitVec 32) : Fin 2 → Nat :=
  let c76 : Index := 76#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2449 : Index := Scalar.indexCast v2242
  ![76, v2449.toNat]
def k0_off108 (k0_t1 : Fin k0_t1_loop.trips) (c0_i32_512 : BitVec 32) : Fin 2 → Nat :=
  let c77 : Index := 77#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2456 : Index := Scalar.indexCast v2242
  ![77, v2456.toNat]
def k0_off109 (k0_t1 : Fin k0_t1_loop.trips) (c0_i32_512 : BitVec 32) : Fin 2 → Nat :=
  let c78 : Index := 78#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2473 : Index := Scalar.indexCast v2242
  ![78, v2473.toNat]
def k0_off110 (k0_t1 : Fin k0_t1_loop.trips) (c0_i32_512 : BitVec 32) : Fin 2 → Nat :=
  let c79 : Index := 79#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2242 : BitVec 32 := Scalar.addi v252 c0_i32_512
  let v2480 : Index := Scalar.indexCast v2242
  ![79, v2480.toNat]
def k0_off111 (k0_t1 : Fin k0_t1_loop.trips) (c0_i32_618 : BitVec 32) : Fin 2 → Nat :=
  let c640 : Index := 640#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2740 : Index := Scalar.indexCast v2739
  ![640, v2740.toNat]
def k0_off112 (k0_t1 : Fin k0_t1_loop.trips) (c0_i32_618 : BitVec 32) : Fin 2 → Nat :=
  let c672 : Index := 672#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2744 : Index := Scalar.indexCast v2739
  ![672, v2744.toNat]
def k0_off113 (k0_t1 : Fin k0_t1_loop.trips) (c0_i32_618 : BitVec 32) : Fin 2 → Nat :=
  let c320_619 : Index := 320#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2748 : Index := Scalar.indexCast v2739
  ![320, v2748.toNat]
def k0_off114 (k0_t1 : Fin k0_t1_loop.trips) (c0_i32_618 : BitVec 32) : Fin 2 → Nat :=
  let c80_630 : Index := 80#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2776 : Index := Scalar.indexCast v2739
  ![80, v2776.toNat]
def k0_off115 (k0_t1 : Fin k0_t1_loop.trips) (c0_i32_618 : BitVec 32) : Fin 2 → Nat :=
  let c81 : Index := 81#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2783 : Index := Scalar.indexCast v2739
  ![81, v2783.toNat]
def k0_off116 (k0_t1 : Fin k0_t1_loop.trips) (c0_i32_618 : BitVec 32) : Fin 2 → Nat :=
  let c82 : Index := 82#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2800 : Index := Scalar.indexCast v2739
  ![82, v2800.toNat]
def k0_off117 (k0_t1 : Fin k0_t1_loop.trips) (c0_i32_618 : BitVec 32) : Fin 2 → Nat :=
  let c83 : Index := 83#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2807 : Index := Scalar.indexCast v2739
  ![83, v2807.toNat]
def k0_off118 (k0_t1 : Fin k0_t1_loop.trips) (c0_i32_618 : BitVec 32) : Fin 2 → Nat :=
  let c84 : Index := 84#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2824 : Index := Scalar.indexCast v2739
  ![84, v2824.toNat]
def k0_off119 (k0_t1 : Fin k0_t1_loop.trips) (c0_i32_618 : BitVec 32) : Fin 2 → Nat :=
  let c85 : Index := 85#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2831 : Index := Scalar.indexCast v2739
  ![85, v2831.toNat]
def k0_off120 (k0_t1 : Fin k0_t1_loop.trips) (c0_i32_618 : BitVec 32) : Fin 2 → Nat :=
  let c86 : Index := 86#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2848 : Index := Scalar.indexCast v2739
  ![86, v2848.toNat]
def k0_off121 (k0_t1 : Fin k0_t1_loop.trips) (c0_i32_618 : BitVec 32) : Fin 2 → Nat :=
  let c87 : Index := 87#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2855 : Index := Scalar.indexCast v2739
  ![87, v2855.toNat]
def k0_off122 (k0_t1 : Fin k0_t1_loop.trips) (c0_i32_618 : BitVec 32) : Fin 2 → Nat :=
  let c704 : Index := 704#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2862 : Index := Scalar.indexCast v2739
  ![704, v2862.toNat]
def k0_off123 (k0_t1 : Fin k0_t1_loop.trips) (c0_i32_618 : BitVec 32) : Fin 2 → Nat :=
  let c736 : Index := 736#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2866 : Index := Scalar.indexCast v2739
  ![736, v2866.toNat]
def k0_off124 (k0_t1 : Fin k0_t1_loop.trips) (c0_i32_618 : BitVec 32) : Fin 2 → Nat :=
  let c352_640 : Index := 352#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2870 : Index := Scalar.indexCast v2739
  ![352, v2870.toNat]
def k0_off125 (k0_t1 : Fin k0_t1_loop.trips) (c0_i32_618 : BitVec 32) : Fin 2 → Nat :=
  let c88 : Index := 88#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2898 : Index := Scalar.indexCast v2739
  ![88, v2898.toNat]
def k0_off126 (k0_t1 : Fin k0_t1_loop.trips) (c0_i32_618 : BitVec 32) : Fin 2 → Nat :=
  let c89 : Index := 89#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2905 : Index := Scalar.indexCast v2739
  ![89, v2905.toNat]
def k0_off127 (k0_t1 : Fin k0_t1_loop.trips) (c0_i32_618 : BitVec 32) : Fin 2 → Nat :=
  let c90 : Index := 90#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2922 : Index := Scalar.indexCast v2739
  ![90, v2922.toNat]
def k0_off128 (k0_t1 : Fin k0_t1_loop.trips) (c0_i32_618 : BitVec 32) : Fin 2 → Nat :=
  let c91 : Index := 91#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2929 : Index := Scalar.indexCast v2739
  ![91, v2929.toNat]
def k0_off129 (k0_t1 : Fin k0_t1_loop.trips) (c0_i32_618 : BitVec 32) : Fin 2 → Nat :=
  let c92 : Index := 92#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2946 : Index := Scalar.indexCast v2739
  ![92, v2946.toNat]
def k0_off130 (k0_t1 : Fin k0_t1_loop.trips) (c0_i32_618 : BitVec 32) : Fin 2 → Nat :=
  let c93 : Index := 93#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2953 : Index := Scalar.indexCast v2739
  ![93, v2953.toNat]
def k0_off131 (k0_t1 : Fin k0_t1_loop.trips) (c0_i32_618 : BitVec 32) : Fin 2 → Nat :=
  let c94 : Index := 94#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2970 : Index := Scalar.indexCast v2739
  ![94, v2970.toNat]
def k0_off132 (k0_t1 : Fin k0_t1_loop.trips) (c0_i32_618 : BitVec 32) : Fin 2 → Nat :=
  let c95 : Index := 95#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v2739 : BitVec 32 := Scalar.addi v252 c0_i32_618
  let v2977 : Index := Scalar.indexCast v2739
  ![95, v2977.toNat]
def k0_off133 (k0_t1 : Fin k0_t1_loop.trips) (c0_i32_723 : BitVec 32) : Fin 2 → Nat :=
  let c768_724 : Index := 768#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3237 : Index := Scalar.indexCast v3236
  ![768, v3237.toNat]
def k0_off134 (k0_t1 : Fin k0_t1_loop.trips) (c0_i32_723 : BitVec 32) : Fin 2 → Nat :=
  let c800 : Index := 800#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3241 : Index := Scalar.indexCast v3236
  ![800, v3241.toNat]
def k0_off135 (k0_t1 : Fin k0_t1_loop.trips) (c0_i32_723 : BitVec 32) : Fin 2 → Nat :=
  let c384_725 : Index := 384#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3245 : Index := Scalar.indexCast v3236
  ![384, v3245.toNat]
def k0_off136 (k0_t1 : Fin k0_t1_loop.trips) (c0_i32_723 : BitVec 32) : Fin 2 → Nat :=
  let c96_736 : Index := 96#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3273 : Index := Scalar.indexCast v3236
  ![96, v3273.toNat]
def k0_off137 (k0_t1 : Fin k0_t1_loop.trips) (c0_i32_723 : BitVec 32) : Fin 2 → Nat :=
  let c97 : Index := 97#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3280 : Index := Scalar.indexCast v3236
  ![97, v3280.toNat]
def k0_off138 (k0_t1 : Fin k0_t1_loop.trips) (c0_i32_723 : BitVec 32) : Fin 2 → Nat :=
  let c98 : Index := 98#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3297 : Index := Scalar.indexCast v3236
  ![98, v3297.toNat]
def k0_off139 (k0_t1 : Fin k0_t1_loop.trips) (c0_i32_723 : BitVec 32) : Fin 2 → Nat :=
  let c99 : Index := 99#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3304 : Index := Scalar.indexCast v3236
  ![99, v3304.toNat]
def k0_off140 (k0_t1 : Fin k0_t1_loop.trips) (c0_i32_723 : BitVec 32) : Fin 2 → Nat :=
  let c100 : Index := 100#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3321 : Index := Scalar.indexCast v3236
  ![100, v3321.toNat]
def k0_off141 (k0_t1 : Fin k0_t1_loop.trips) (c0_i32_723 : BitVec 32) : Fin 2 → Nat :=
  let c101 : Index := 101#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3328 : Index := Scalar.indexCast v3236
  ![101, v3328.toNat]
def k0_off142 (k0_t1 : Fin k0_t1_loop.trips) (c0_i32_723 : BitVec 32) : Fin 2 → Nat :=
  let c102 : Index := 102#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3345 : Index := Scalar.indexCast v3236
  ![102, v3345.toNat]
def k0_off143 (k0_t1 : Fin k0_t1_loop.trips) (c0_i32_723 : BitVec 32) : Fin 2 → Nat :=
  let c103 : Index := 103#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3352 : Index := Scalar.indexCast v3236
  ![103, v3352.toNat]
def k0_off144 (k0_t1 : Fin k0_t1_loop.trips) (c0_i32_723 : BitVec 32) : Fin 2 → Nat :=
  let c832 : Index := 832#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3359 : Index := Scalar.indexCast v3236
  ![832, v3359.toNat]
def k0_off145 (k0_t1 : Fin k0_t1_loop.trips) (c0_i32_723 : BitVec 32) : Fin 2 → Nat :=
  let c864 : Index := 864#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3363 : Index := Scalar.indexCast v3236
  ![864, v3363.toNat]
def k0_off146 (k0_t1 : Fin k0_t1_loop.trips) (c0_i32_723 : BitVec 32) : Fin 2 → Nat :=
  let c416_746 : Index := 416#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3367 : Index := Scalar.indexCast v3236
  ![416, v3367.toNat]
def k0_off147 (k0_t1 : Fin k0_t1_loop.trips) (c0_i32_723 : BitVec 32) : Fin 2 → Nat :=
  let c104 : Index := 104#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3395 : Index := Scalar.indexCast v3236
  ![104, v3395.toNat]
def k0_off148 (k0_t1 : Fin k0_t1_loop.trips) (c0_i32_723 : BitVec 32) : Fin 2 → Nat :=
  let c105 : Index := 105#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3402 : Index := Scalar.indexCast v3236
  ![105, v3402.toNat]
def k0_off149 (k0_t1 : Fin k0_t1_loop.trips) (c0_i32_723 : BitVec 32) : Fin 2 → Nat :=
  let c106 : Index := 106#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3419 : Index := Scalar.indexCast v3236
  ![106, v3419.toNat]
def k0_off150 (k0_t1 : Fin k0_t1_loop.trips) (c0_i32_723 : BitVec 32) : Fin 2 → Nat :=
  let c107 : Index := 107#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3426 : Index := Scalar.indexCast v3236
  ![107, v3426.toNat]
def k0_off151 (k0_t1 : Fin k0_t1_loop.trips) (c0_i32_723 : BitVec 32) : Fin 2 → Nat :=
  let c108 : Index := 108#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3443 : Index := Scalar.indexCast v3236
  ![108, v3443.toNat]
def k0_off152 (k0_t1 : Fin k0_t1_loop.trips) (c0_i32_723 : BitVec 32) : Fin 2 → Nat :=
  let c109 : Index := 109#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3450 : Index := Scalar.indexCast v3236
  ![109, v3450.toNat]
def k0_off153 (k0_t1 : Fin k0_t1_loop.trips) (c0_i32_723 : BitVec 32) : Fin 2 → Nat :=
  let c110 : Index := 110#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3467 : Index := Scalar.indexCast v3236
  ![110, v3467.toNat]
def k0_off154 (k0_t1 : Fin k0_t1_loop.trips) (c0_i32_723 : BitVec 32) : Fin 2 → Nat :=
  let c111 : Index := 111#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3236 : BitVec 32 := Scalar.addi v252 c0_i32_723
  let v3474 : Index := Scalar.indexCast v3236
  ![111, v3474.toNat]
def k0_off155 (k0_t1 : Fin k0_t1_loop.trips) (c0_i32_829 : BitVec 32) : Fin 2 → Nat :=
  let c896 : Index := 896#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3734 : Index := Scalar.indexCast v3733
  ![896, v3734.toNat]
def k0_off156 (k0_t1 : Fin k0_t1_loop.trips) (c0_i32_829 : BitVec 32) : Fin 2 → Nat :=
  let c928 : Index := 928#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3738 : Index := Scalar.indexCast v3733
  ![928, v3738.toNat]
def k0_off157 (k0_t1 : Fin k0_t1_loop.trips) (c0_i32_829 : BitVec 32) : Fin 2 → Nat :=
  let c448_830 : Index := 448#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3742 : Index := Scalar.indexCast v3733
  ![448, v3742.toNat]
def k0_off158 (k0_t1 : Fin k0_t1_loop.trips) (c0_i32_829 : BitVec 32) : Fin 2 → Nat :=
  let c112_841 : Index := 112#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3770 : Index := Scalar.indexCast v3733
  ![112, v3770.toNat]
def k0_off159 (k0_t1 : Fin k0_t1_loop.trips) (c0_i32_829 : BitVec 32) : Fin 2 → Nat :=
  let c113 : Index := 113#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3777 : Index := Scalar.indexCast v3733
  ![113, v3777.toNat]
def k0_off160 (k0_t1 : Fin k0_t1_loop.trips) (c0_i32_829 : BitVec 32) : Fin 2 → Nat :=
  let c114 : Index := 114#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3794 : Index := Scalar.indexCast v3733
  ![114, v3794.toNat]
def k0_off161 (k0_t1 : Fin k0_t1_loop.trips) (c0_i32_829 : BitVec 32) : Fin 2 → Nat :=
  let c115 : Index := 115#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3801 : Index := Scalar.indexCast v3733
  ![115, v3801.toNat]
def k0_off162 (k0_t1 : Fin k0_t1_loop.trips) (c0_i32_829 : BitVec 32) : Fin 2 → Nat :=
  let c116 : Index := 116#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3818 : Index := Scalar.indexCast v3733
  ![116, v3818.toNat]
def k0_off163 (k0_t1 : Fin k0_t1_loop.trips) (c0_i32_829 : BitVec 32) : Fin 2 → Nat :=
  let c117 : Index := 117#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3825 : Index := Scalar.indexCast v3733
  ![117, v3825.toNat]
def k0_off164 (k0_t1 : Fin k0_t1_loop.trips) (c0_i32_829 : BitVec 32) : Fin 2 → Nat :=
  let c118 : Index := 118#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3842 : Index := Scalar.indexCast v3733
  ![118, v3842.toNat]
def k0_off165 (k0_t1 : Fin k0_t1_loop.trips) (c0_i32_829 : BitVec 32) : Fin 2 → Nat :=
  let c119 : Index := 119#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3849 : Index := Scalar.indexCast v3733
  ![119, v3849.toNat]
def k0_off166 (k0_t1 : Fin k0_t1_loop.trips) (c0_i32_829 : BitVec 32) : Fin 2 → Nat :=
  let c960 : Index := 960#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3856 : Index := Scalar.indexCast v3733
  ![960, v3856.toNat]
def k0_off167 (k0_t1 : Fin k0_t1_loop.trips) (c0_i32_829 : BitVec 32) : Fin 2 → Nat :=
  let c992 : Index := 992#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3860 : Index := Scalar.indexCast v3733
  ![992, v3860.toNat]
def k0_off168 (k0_t1 : Fin k0_t1_loop.trips) (c0_i32_829 : BitVec 32) : Fin 2 → Nat :=
  let c480_851 : Index := 480#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3864 : Index := Scalar.indexCast v3733
  ![480, v3864.toNat]
def k0_off169 (k0_t1 : Fin k0_t1_loop.trips) (c0_i32_829 : BitVec 32) : Fin 2 → Nat :=
  let c120 : Index := 120#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3892 : Index := Scalar.indexCast v3733
  ![120, v3892.toNat]
def k0_off170 (k0_t1 : Fin k0_t1_loop.trips) (c0_i32_829 : BitVec 32) : Fin 2 → Nat :=
  let c121 : Index := 121#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3899 : Index := Scalar.indexCast v3733
  ![121, v3899.toNat]
def k0_off171 (k0_t1 : Fin k0_t1_loop.trips) (c0_i32_829 : BitVec 32) : Fin 2 → Nat :=
  let c122 : Index := 122#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3916 : Index := Scalar.indexCast v3733
  ![122, v3916.toNat]
def k0_off172 (k0_t1 : Fin k0_t1_loop.trips) (c0_i32_829 : BitVec 32) : Fin 2 → Nat :=
  let c123 : Index := 123#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3923 : Index := Scalar.indexCast v3733
  ![123, v3923.toNat]
def k0_off173 (k0_t1 : Fin k0_t1_loop.trips) (c0_i32_829 : BitVec 32) : Fin 2 → Nat :=
  let c124 : Index := 124#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3940 : Index := Scalar.indexCast v3733
  ![124, v3940.toNat]
def k0_off174 (k0_t1 : Fin k0_t1_loop.trips) (c0_i32_829 : BitVec 32) : Fin 2 → Nat :=
  let c125 : Index := 125#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3947 : Index := Scalar.indexCast v3733
  ![125, v3947.toNat]
def k0_off175 (k0_t1 : Fin k0_t1_loop.trips) (c0_i32_829 : BitVec 32) : Fin 2 → Nat :=
  let c126 : Index := 126#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3964 : Index := Scalar.indexCast v3733
  ![126, v3964.toNat]
def k0_off176 (k0_t1 : Fin k0_t1_loop.trips) (c0_i32_829 : BitVec 32) : Fin 2 → Nat :=
  let c127 : Index := 127#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v3733 : BitVec 32 := Scalar.addi v252 c0_i32_829
  let v3971 : Index := Scalar.indexCast v3733
  ![127, v3971.toNat]
def k0_off177 (k0_t1 : Fin k0_t1_loop.trips) (c0_i32_934 : BitVec 32) : Fin 2 → Nat :=
  let c1024_935 : Index := 1024#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4231 : Index := Scalar.indexCast v4230
  ![1024, v4231.toNat]
def k0_off178 (k0_t1 : Fin k0_t1_loop.trips) (c0_i32_934 : BitVec 32) : Fin 2 → Nat :=
  let c1056 : Index := 1056#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4235 : Index := Scalar.indexCast v4230
  ![1056, v4235.toNat]
def k0_off179 (k0_t1 : Fin k0_t1_loop.trips) (c0_i32_934 : BitVec 32) : Fin 2 → Nat :=
  let c512_936 : Index := 512#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4239 : Index := Scalar.indexCast v4230
  ![512, v4239.toNat]
def k0_off180 (k0_t1 : Fin k0_t1_loop.trips) (c0_i32_934 : BitVec 32) : Fin 2 → Nat :=
  let c128_947 : Index := 128#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4267 : Index := Scalar.indexCast v4230
  ![128, v4267.toNat]
def k0_off181 (k0_t1 : Fin k0_t1_loop.trips) (c0_i32_934 : BitVec 32) : Fin 2 → Nat :=
  let c129 : Index := 129#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4274 : Index := Scalar.indexCast v4230
  ![129, v4274.toNat]
def k0_off182 (k0_t1 : Fin k0_t1_loop.trips) (c0_i32_934 : BitVec 32) : Fin 2 → Nat :=
  let c130 : Index := 130#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4291 : Index := Scalar.indexCast v4230
  ![130, v4291.toNat]
def k0_off183 (k0_t1 : Fin k0_t1_loop.trips) (c0_i32_934 : BitVec 32) : Fin 2 → Nat :=
  let c131 : Index := 131#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4298 : Index := Scalar.indexCast v4230
  ![131, v4298.toNat]
def k0_off184 (k0_t1 : Fin k0_t1_loop.trips) (c0_i32_934 : BitVec 32) : Fin 2 → Nat :=
  let c132 : Index := 132#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4315 : Index := Scalar.indexCast v4230
  ![132, v4315.toNat]
def k0_off185 (k0_t1 : Fin k0_t1_loop.trips) (c0_i32_934 : BitVec 32) : Fin 2 → Nat :=
  let c133 : Index := 133#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4322 : Index := Scalar.indexCast v4230
  ![133, v4322.toNat]
def k0_off186 (k0_t1 : Fin k0_t1_loop.trips) (c0_i32_934 : BitVec 32) : Fin 2 → Nat :=
  let c134 : Index := 134#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4339 : Index := Scalar.indexCast v4230
  ![134, v4339.toNat]
def k0_off187 (k0_t1 : Fin k0_t1_loop.trips) (c0_i32_934 : BitVec 32) : Fin 2 → Nat :=
  let c135 : Index := 135#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4346 : Index := Scalar.indexCast v4230
  ![135, v4346.toNat]
def k0_off188 (k0_t1 : Fin k0_t1_loop.trips) (c0_i32_934 : BitVec 32) : Fin 2 → Nat :=
  let c1088 : Index := 1088#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4353 : Index := Scalar.indexCast v4230
  ![1088, v4353.toNat]
def k0_off189 (k0_t1 : Fin k0_t1_loop.trips) (c0_i32_934 : BitVec 32) : Fin 2 → Nat :=
  let c1120 : Index := 1120#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4357 : Index := Scalar.indexCast v4230
  ![1120, v4357.toNat]
def k0_off190 (k0_t1 : Fin k0_t1_loop.trips) (c0_i32_934 : BitVec 32) : Fin 2 → Nat :=
  let c544_957 : Index := 544#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4361 : Index := Scalar.indexCast v4230
  ![544, v4361.toNat]
def k0_off191 (k0_t1 : Fin k0_t1_loop.trips) (c0_i32_934 : BitVec 32) : Fin 2 → Nat :=
  let c136 : Index := 136#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4389 : Index := Scalar.indexCast v4230
  ![136, v4389.toNat]
def k0_off192 (k0_t1 : Fin k0_t1_loop.trips) (c0_i32_934 : BitVec 32) : Fin 2 → Nat :=
  let c137 : Index := 137#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4396 : Index := Scalar.indexCast v4230
  ![137, v4396.toNat]
def k0_off193 (k0_t1 : Fin k0_t1_loop.trips) (c0_i32_934 : BitVec 32) : Fin 2 → Nat :=
  let c138 : Index := 138#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4413 : Index := Scalar.indexCast v4230
  ![138, v4413.toNat]
def k0_off194 (k0_t1 : Fin k0_t1_loop.trips) (c0_i32_934 : BitVec 32) : Fin 2 → Nat :=
  let c139 : Index := 139#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4420 : Index := Scalar.indexCast v4230
  ![139, v4420.toNat]
def k0_off195 (k0_t1 : Fin k0_t1_loop.trips) (c0_i32_934 : BitVec 32) : Fin 2 → Nat :=
  let c140 : Index := 140#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4437 : Index := Scalar.indexCast v4230
  ![140, v4437.toNat]
def k0_off196 (k0_t1 : Fin k0_t1_loop.trips) (c0_i32_934 : BitVec 32) : Fin 2 → Nat :=
  let c141 : Index := 141#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4444 : Index := Scalar.indexCast v4230
  ![141, v4444.toNat]
def k0_off197 (k0_t1 : Fin k0_t1_loop.trips) (c0_i32_934 : BitVec 32) : Fin 2 → Nat :=
  let c142 : Index := 142#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4461 : Index := Scalar.indexCast v4230
  ![142, v4461.toNat]
def k0_off198 (k0_t1 : Fin k0_t1_loop.trips) (c0_i32_934 : BitVec 32) : Fin 2 → Nat :=
  let c143 : Index := 143#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4230 : BitVec 32 := Scalar.addi v252 c0_i32_934
  let v4468 : Index := Scalar.indexCast v4230
  ![143, v4468.toNat]
def k0_off199 (k0_t1 : Fin k0_t1_loop.trips) (c0_i32_1040 : BitVec 32) : Fin 2 → Nat :=
  let c1152 : Index := 1152#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4728 : Index := Scalar.indexCast v4727
  ![1152, v4728.toNat]
def k0_off200 (k0_t1 : Fin k0_t1_loop.trips) (c0_i32_1040 : BitVec 32) : Fin 2 → Nat :=
  let c1184 : Index := 1184#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4732 : Index := Scalar.indexCast v4727
  ![1184, v4732.toNat]
def k0_off201 (k0_t1 : Fin k0_t1_loop.trips) (c0_i32_1040 : BitVec 32) : Fin 2 → Nat :=
  let c576_1041 : Index := 576#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4736 : Index := Scalar.indexCast v4727
  ![576, v4736.toNat]
def k0_off202 (k0_t1 : Fin k0_t1_loop.trips) (c0_i32_1040 : BitVec 32) : Fin 2 → Nat :=
  let c144_1052 : Index := 144#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4764 : Index := Scalar.indexCast v4727
  ![144, v4764.toNat]
def k0_off203 (k0_t1 : Fin k0_t1_loop.trips) (c0_i32_1040 : BitVec 32) : Fin 2 → Nat :=
  let c145 : Index := 145#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4771 : Index := Scalar.indexCast v4727
  ![145, v4771.toNat]
def k0_off204 (k0_t1 : Fin k0_t1_loop.trips) (c0_i32_1040 : BitVec 32) : Fin 2 → Nat :=
  let c146 : Index := 146#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4788 : Index := Scalar.indexCast v4727
  ![146, v4788.toNat]
def k0_off205 (k0_t1 : Fin k0_t1_loop.trips) (c0_i32_1040 : BitVec 32) : Fin 2 → Nat :=
  let c147 : Index := 147#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4795 : Index := Scalar.indexCast v4727
  ![147, v4795.toNat]
def k0_off206 (k0_t1 : Fin k0_t1_loop.trips) (c0_i32_1040 : BitVec 32) : Fin 2 → Nat :=
  let c148 : Index := 148#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4812 : Index := Scalar.indexCast v4727
  ![148, v4812.toNat]
def k0_off207 (k0_t1 : Fin k0_t1_loop.trips) (c0_i32_1040 : BitVec 32) : Fin 2 → Nat :=
  let c149 : Index := 149#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4819 : Index := Scalar.indexCast v4727
  ![149, v4819.toNat]
def k0_off208 (k0_t1 : Fin k0_t1_loop.trips) (c0_i32_1040 : BitVec 32) : Fin 2 → Nat :=
  let c150 : Index := 150#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4836 : Index := Scalar.indexCast v4727
  ![150, v4836.toNat]
def k0_off209 (k0_t1 : Fin k0_t1_loop.trips) (c0_i32_1040 : BitVec 32) : Fin 2 → Nat :=
  let c151 : Index := 151#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4843 : Index := Scalar.indexCast v4727
  ![151, v4843.toNat]
def k0_off210 (k0_t1 : Fin k0_t1_loop.trips) (c0_i32_1040 : BitVec 32) : Fin 2 → Nat :=
  let c1216 : Index := 1216#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4850 : Index := Scalar.indexCast v4727
  ![1216, v4850.toNat]
def k0_off211 (k0_t1 : Fin k0_t1_loop.trips) (c0_i32_1040 : BitVec 32) : Fin 2 → Nat :=
  let c1248 : Index := 1248#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4854 : Index := Scalar.indexCast v4727
  ![1248, v4854.toNat]
def k0_off212 (k0_t1 : Fin k0_t1_loop.trips) (c0_i32_1040 : BitVec 32) : Fin 2 → Nat :=
  let c608_1062 : Index := 608#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4858 : Index := Scalar.indexCast v4727
  ![608, v4858.toNat]
def k0_off213 (k0_t1 : Fin k0_t1_loop.trips) (c0_i32_1040 : BitVec 32) : Fin 2 → Nat :=
  let c152 : Index := 152#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4886 : Index := Scalar.indexCast v4727
  ![152, v4886.toNat]
def k0_off214 (k0_t1 : Fin k0_t1_loop.trips) (c0_i32_1040 : BitVec 32) : Fin 2 → Nat :=
  let c153 : Index := 153#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4893 : Index := Scalar.indexCast v4727
  ![153, v4893.toNat]
def k0_off215 (k0_t1 : Fin k0_t1_loop.trips) (c0_i32_1040 : BitVec 32) : Fin 2 → Nat :=
  let c154 : Index := 154#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4910 : Index := Scalar.indexCast v4727
  ![154, v4910.toNat]
def k0_off216 (k0_t1 : Fin k0_t1_loop.trips) (c0_i32_1040 : BitVec 32) : Fin 2 → Nat :=
  let c155 : Index := 155#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4917 : Index := Scalar.indexCast v4727
  ![155, v4917.toNat]
def k0_off217 (k0_t1 : Fin k0_t1_loop.trips) (c0_i32_1040 : BitVec 32) : Fin 2 → Nat :=
  let c156 : Index := 156#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4934 : Index := Scalar.indexCast v4727
  ![156, v4934.toNat]
def k0_off218 (k0_t1 : Fin k0_t1_loop.trips) (c0_i32_1040 : BitVec 32) : Fin 2 → Nat :=
  let c157 : Index := 157#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4941 : Index := Scalar.indexCast v4727
  ![157, v4941.toNat]
def k0_off219 (k0_t1 : Fin k0_t1_loop.trips) (c0_i32_1040 : BitVec 32) : Fin 2 → Nat :=
  let c158 : Index := 158#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4958 : Index := Scalar.indexCast v4727
  ![158, v4958.toNat]
def k0_off220 (k0_t1 : Fin k0_t1_loop.trips) (c0_i32_1040 : BitVec 32) : Fin 2 → Nat :=
  let c159 : Index := 159#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v4727 : BitVec 32 := Scalar.addi v252 c0_i32_1040
  let v4965 : Index := Scalar.indexCast v4727
  ![159, v4965.toNat]
def k0_off221 (k0_t1 : Fin k0_t1_loop.trips) (c0_i32_1145 : BitVec 32) : Fin 2 → Nat :=
  let c1280_1146 : Index := 1280#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5225 : Index := Scalar.indexCast v5224
  ![1280, v5225.toNat]
def k0_off222 (k0_t1 : Fin k0_t1_loop.trips) (c0_i32_1145 : BitVec 32) : Fin 2 → Nat :=
  let c1312 : Index := 1312#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5229 : Index := Scalar.indexCast v5224
  ![1312, v5229.toNat]
def k0_off223 (k0_t1 : Fin k0_t1_loop.trips) (c0_i32_1145 : BitVec 32) : Fin 2 → Nat :=
  let c640_1147 : Index := 640#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5233 : Index := Scalar.indexCast v5224
  ![640, v5233.toNat]
def k0_off224 (k0_t1 : Fin k0_t1_loop.trips) (c0_i32_1145 : BitVec 32) : Fin 2 → Nat :=
  let c160_1158 : Index := 160#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5261 : Index := Scalar.indexCast v5224
  ![160, v5261.toNat]
def k0_off225 (k0_t1 : Fin k0_t1_loop.trips) (c0_i32_1145 : BitVec 32) : Fin 2 → Nat :=
  let c161 : Index := 161#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5268 : Index := Scalar.indexCast v5224
  ![161, v5268.toNat]
def k0_off226 (k0_t1 : Fin k0_t1_loop.trips) (c0_i32_1145 : BitVec 32) : Fin 2 → Nat :=
  let c162 : Index := 162#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5285 : Index := Scalar.indexCast v5224
  ![162, v5285.toNat]
def k0_off227 (k0_t1 : Fin k0_t1_loop.trips) (c0_i32_1145 : BitVec 32) : Fin 2 → Nat :=
  let c163 : Index := 163#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5292 : Index := Scalar.indexCast v5224
  ![163, v5292.toNat]
def k0_off228 (k0_t1 : Fin k0_t1_loop.trips) (c0_i32_1145 : BitVec 32) : Fin 2 → Nat :=
  let c164 : Index := 164#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5309 : Index := Scalar.indexCast v5224
  ![164, v5309.toNat]
def k0_off229 (k0_t1 : Fin k0_t1_loop.trips) (c0_i32_1145 : BitVec 32) : Fin 2 → Nat :=
  let c165 : Index := 165#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5316 : Index := Scalar.indexCast v5224
  ![165, v5316.toNat]
def k0_off230 (k0_t1 : Fin k0_t1_loop.trips) (c0_i32_1145 : BitVec 32) : Fin 2 → Nat :=
  let c166 : Index := 166#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5333 : Index := Scalar.indexCast v5224
  ![166, v5333.toNat]
def k0_off231 (k0_t1 : Fin k0_t1_loop.trips) (c0_i32_1145 : BitVec 32) : Fin 2 → Nat :=
  let c167 : Index := 167#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5340 : Index := Scalar.indexCast v5224
  ![167, v5340.toNat]
def k0_off232 (k0_t1 : Fin k0_t1_loop.trips) (c0_i32_1145 : BitVec 32) : Fin 2 → Nat :=
  let c1344 : Index := 1344#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5347 : Index := Scalar.indexCast v5224
  ![1344, v5347.toNat]
def k0_off233 (k0_t1 : Fin k0_t1_loop.trips) (c0_i32_1145 : BitVec 32) : Fin 2 → Nat :=
  let c1376 : Index := 1376#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5351 : Index := Scalar.indexCast v5224
  ![1376, v5351.toNat]
def k0_off234 (k0_t1 : Fin k0_t1_loop.trips) (c0_i32_1145 : BitVec 32) : Fin 2 → Nat :=
  let c672_1168 : Index := 672#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5355 : Index := Scalar.indexCast v5224
  ![672, v5355.toNat]
def k0_off235 (k0_t1 : Fin k0_t1_loop.trips) (c0_i32_1145 : BitVec 32) : Fin 2 → Nat :=
  let c168 : Index := 168#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5383 : Index := Scalar.indexCast v5224
  ![168, v5383.toNat]
def k0_off236 (k0_t1 : Fin k0_t1_loop.trips) (c0_i32_1145 : BitVec 32) : Fin 2 → Nat :=
  let c169 : Index := 169#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5390 : Index := Scalar.indexCast v5224
  ![169, v5390.toNat]
def k0_off237 (k0_t1 : Fin k0_t1_loop.trips) (c0_i32_1145 : BitVec 32) : Fin 2 → Nat :=
  let c170 : Index := 170#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5407 : Index := Scalar.indexCast v5224
  ![170, v5407.toNat]
def k0_off238 (k0_t1 : Fin k0_t1_loop.trips) (c0_i32_1145 : BitVec 32) : Fin 2 → Nat :=
  let c171 : Index := 171#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5414 : Index := Scalar.indexCast v5224
  ![171, v5414.toNat]
def k0_off239 (k0_t1 : Fin k0_t1_loop.trips) (c0_i32_1145 : BitVec 32) : Fin 2 → Nat :=
  let c172 : Index := 172#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5431 : Index := Scalar.indexCast v5224
  ![172, v5431.toNat]
def k0_off240 (k0_t1 : Fin k0_t1_loop.trips) (c0_i32_1145 : BitVec 32) : Fin 2 → Nat :=
  let c173 : Index := 173#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5438 : Index := Scalar.indexCast v5224
  ![173, v5438.toNat]
def k0_off241 (k0_t1 : Fin k0_t1_loop.trips) (c0_i32_1145 : BitVec 32) : Fin 2 → Nat :=
  let c174 : Index := 174#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5455 : Index := Scalar.indexCast v5224
  ![174, v5455.toNat]
def k0_off242 (k0_t1 : Fin k0_t1_loop.trips) (c0_i32_1145 : BitVec 32) : Fin 2 → Nat :=
  let c175 : Index := 175#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5224 : BitVec 32 := Scalar.addi v252 c0_i32_1145
  let v5462 : Index := Scalar.indexCast v5224
  ![175, v5462.toNat]
def k0_off243 (k0_t1 : Fin k0_t1_loop.trips) (c0_i32_1251 : BitVec 32) : Fin 2 → Nat :=
  let c1408 : Index := 1408#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5722 : Index := Scalar.indexCast v5721
  ![1408, v5722.toNat]
def k0_off244 (k0_t1 : Fin k0_t1_loop.trips) (c0_i32_1251 : BitVec 32) : Fin 2 → Nat :=
  let c1440 : Index := 1440#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5726 : Index := Scalar.indexCast v5721
  ![1440, v5726.toNat]
def k0_off245 (k0_t1 : Fin k0_t1_loop.trips) (c0_i32_1251 : BitVec 32) : Fin 2 → Nat :=
  let c704_1252 : Index := 704#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5730 : Index := Scalar.indexCast v5721
  ![704, v5730.toNat]
def k0_off246 (k0_t1 : Fin k0_t1_loop.trips) (c0_i32_1251 : BitVec 32) : Fin 2 → Nat :=
  let c176_1263 : Index := 176#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5758 : Index := Scalar.indexCast v5721
  ![176, v5758.toNat]
def k0_off247 (k0_t1 : Fin k0_t1_loop.trips) (c0_i32_1251 : BitVec 32) : Fin 2 → Nat :=
  let c177 : Index := 177#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5765 : Index := Scalar.indexCast v5721
  ![177, v5765.toNat]
def k0_off248 (k0_t1 : Fin k0_t1_loop.trips) (c0_i32_1251 : BitVec 32) : Fin 2 → Nat :=
  let c178 : Index := 178#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5782 : Index := Scalar.indexCast v5721
  ![178, v5782.toNat]
def k0_off249 (k0_t1 : Fin k0_t1_loop.trips) (c0_i32_1251 : BitVec 32) : Fin 2 → Nat :=
  let c179 : Index := 179#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5789 : Index := Scalar.indexCast v5721
  ![179, v5789.toNat]
def k0_off250 (k0_t1 : Fin k0_t1_loop.trips) (c0_i32_1251 : BitVec 32) : Fin 2 → Nat :=
  let c180 : Index := 180#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5806 : Index := Scalar.indexCast v5721
  ![180, v5806.toNat]
def k0_off251 (k0_t1 : Fin k0_t1_loop.trips) (c0_i32_1251 : BitVec 32) : Fin 2 → Nat :=
  let c181 : Index := 181#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5813 : Index := Scalar.indexCast v5721
  ![181, v5813.toNat]
def k0_off252 (k0_t1 : Fin k0_t1_loop.trips) (c0_i32_1251 : BitVec 32) : Fin 2 → Nat :=
  let c182 : Index := 182#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5830 : Index := Scalar.indexCast v5721
  ![182, v5830.toNat]
def k0_off253 (k0_t1 : Fin k0_t1_loop.trips) (c0_i32_1251 : BitVec 32) : Fin 2 → Nat :=
  let c183 : Index := 183#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5837 : Index := Scalar.indexCast v5721
  ![183, v5837.toNat]
def k0_off254 (k0_t1 : Fin k0_t1_loop.trips) (c0_i32_1251 : BitVec 32) : Fin 2 → Nat :=
  let c1472 : Index := 1472#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5844 : Index := Scalar.indexCast v5721
  ![1472, v5844.toNat]
def k0_off255 (k0_t1 : Fin k0_t1_loop.trips) (c0_i32_1251 : BitVec 32) : Fin 2 → Nat :=
  let c1504 : Index := 1504#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5848 : Index := Scalar.indexCast v5721
  ![1504, v5848.toNat]
def k0_off256 (k0_t1 : Fin k0_t1_loop.trips) (c0_i32_1251 : BitVec 32) : Fin 2 → Nat :=
  let c736_1273 : Index := 736#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5852 : Index := Scalar.indexCast v5721
  ![736, v5852.toNat]
def k0_off257 (k0_t1 : Fin k0_t1_loop.trips) (c0_i32_1251 : BitVec 32) : Fin 2 → Nat :=
  let c184 : Index := 184#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5880 : Index := Scalar.indexCast v5721
  ![184, v5880.toNat]
def k0_off258 (k0_t1 : Fin k0_t1_loop.trips) (c0_i32_1251 : BitVec 32) : Fin 2 → Nat :=
  let c185 : Index := 185#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5887 : Index := Scalar.indexCast v5721
  ![185, v5887.toNat]
def k0_off259 (k0_t1 : Fin k0_t1_loop.trips) (c0_i32_1251 : BitVec 32) : Fin 2 → Nat :=
  let c186 : Index := 186#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5904 : Index := Scalar.indexCast v5721
  ![186, v5904.toNat]
def k0_off260 (k0_t1 : Fin k0_t1_loop.trips) (c0_i32_1251 : BitVec 32) : Fin 2 → Nat :=
  let c187 : Index := 187#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5911 : Index := Scalar.indexCast v5721
  ![187, v5911.toNat]
def k0_off261 (k0_t1 : Fin k0_t1_loop.trips) (c0_i32_1251 : BitVec 32) : Fin 2 → Nat :=
  let c188 : Index := 188#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5928 : Index := Scalar.indexCast v5721
  ![188, v5928.toNat]
def k0_off262 (k0_t1 : Fin k0_t1_loop.trips) (c0_i32_1251 : BitVec 32) : Fin 2 → Nat :=
  let c189 : Index := 189#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5935 : Index := Scalar.indexCast v5721
  ![189, v5935.toNat]
def k0_off263 (k0_t1 : Fin k0_t1_loop.trips) (c0_i32_1251 : BitVec 32) : Fin 2 → Nat :=
  let c190 : Index := 190#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5952 : Index := Scalar.indexCast v5721
  ![190, v5952.toNat]
def k0_off264 (k0_t1 : Fin k0_t1_loop.trips) (c0_i32_1251 : BitVec 32) : Fin 2 → Nat :=
  let c191 : Index := 191#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v5721 : BitVec 32 := Scalar.addi v252 c0_i32_1251
  let v5959 : Index := Scalar.indexCast v5721
  ![191, v5959.toNat]
def k0_off265 (k0_t1 : Fin k0_t1_loop.trips) (c0_i32_1356 : BitVec 32) : Fin 2 → Nat :=
  let c1536_1357 : Index := 1536#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6219 : Index := Scalar.indexCast v6218
  ![1536, v6219.toNat]
def k0_off266 (k0_t1 : Fin k0_t1_loop.trips) (c0_i32_1356 : BitVec 32) : Fin 2 → Nat :=
  let c1568 : Index := 1568#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6223 : Index := Scalar.indexCast v6218
  ![1568, v6223.toNat]
def k0_off267 (k0_t1 : Fin k0_t1_loop.trips) (c0_i32_1356 : BitVec 32) : Fin 2 → Nat :=
  let c768_1358 : Index := 768#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6227 : Index := Scalar.indexCast v6218
  ![768, v6227.toNat]
def k0_off268 (k0_t1 : Fin k0_t1_loop.trips) (c0_i32_1356 : BitVec 32) : Fin 2 → Nat :=
  let c192_1369 : Index := 192#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6255 : Index := Scalar.indexCast v6218
  ![192, v6255.toNat]
def k0_off269 (k0_t1 : Fin k0_t1_loop.trips) (c0_i32_1356 : BitVec 32) : Fin 2 → Nat :=
  let c193 : Index := 193#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6262 : Index := Scalar.indexCast v6218
  ![193, v6262.toNat]
def k0_off270 (k0_t1 : Fin k0_t1_loop.trips) (c0_i32_1356 : BitVec 32) : Fin 2 → Nat :=
  let c194 : Index := 194#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6279 : Index := Scalar.indexCast v6218
  ![194, v6279.toNat]
def k0_off271 (k0_t1 : Fin k0_t1_loop.trips) (c0_i32_1356 : BitVec 32) : Fin 2 → Nat :=
  let c195 : Index := 195#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6286 : Index := Scalar.indexCast v6218
  ![195, v6286.toNat]
def k0_off272 (k0_t1 : Fin k0_t1_loop.trips) (c0_i32_1356 : BitVec 32) : Fin 2 → Nat :=
  let c196 : Index := 196#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6303 : Index := Scalar.indexCast v6218
  ![196, v6303.toNat]
def k0_off273 (k0_t1 : Fin k0_t1_loop.trips) (c0_i32_1356 : BitVec 32) : Fin 2 → Nat :=
  let c197 : Index := 197#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6310 : Index := Scalar.indexCast v6218
  ![197, v6310.toNat]
def k0_off274 (k0_t1 : Fin k0_t1_loop.trips) (c0_i32_1356 : BitVec 32) : Fin 2 → Nat :=
  let c198 : Index := 198#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6327 : Index := Scalar.indexCast v6218
  ![198, v6327.toNat]
def k0_off275 (k0_t1 : Fin k0_t1_loop.trips) (c0_i32_1356 : BitVec 32) : Fin 2 → Nat :=
  let c199 : Index := 199#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6334 : Index := Scalar.indexCast v6218
  ![199, v6334.toNat]
def k0_off276 (k0_t1 : Fin k0_t1_loop.trips) (c0_i32_1356 : BitVec 32) : Fin 2 → Nat :=
  let c1600 : Index := 1600#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6341 : Index := Scalar.indexCast v6218
  ![1600, v6341.toNat]
def k0_off277 (k0_t1 : Fin k0_t1_loop.trips) (c0_i32_1356 : BitVec 32) : Fin 2 → Nat :=
  let c1632 : Index := 1632#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6345 : Index := Scalar.indexCast v6218
  ![1632, v6345.toNat]
def k0_off278 (k0_t1 : Fin k0_t1_loop.trips) (c0_i32_1356 : BitVec 32) : Fin 2 → Nat :=
  let c800_1379 : Index := 800#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6349 : Index := Scalar.indexCast v6218
  ![800, v6349.toNat]
def k0_off279 (k0_t1 : Fin k0_t1_loop.trips) (c0_i32_1356 : BitVec 32) : Fin 2 → Nat :=
  let c200 : Index := 200#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6377 : Index := Scalar.indexCast v6218
  ![200, v6377.toNat]
def k0_off280 (k0_t1 : Fin k0_t1_loop.trips) (c0_i32_1356 : BitVec 32) : Fin 2 → Nat :=
  let c201 : Index := 201#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6384 : Index := Scalar.indexCast v6218
  ![201, v6384.toNat]
def k0_off281 (k0_t1 : Fin k0_t1_loop.trips) (c0_i32_1356 : BitVec 32) : Fin 2 → Nat :=
  let c202 : Index := 202#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6401 : Index := Scalar.indexCast v6218
  ![202, v6401.toNat]
def k0_off282 (k0_t1 : Fin k0_t1_loop.trips) (c0_i32_1356 : BitVec 32) : Fin 2 → Nat :=
  let c203 : Index := 203#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6408 : Index := Scalar.indexCast v6218
  ![203, v6408.toNat]
def k0_off283 (k0_t1 : Fin k0_t1_loop.trips) (c0_i32_1356 : BitVec 32) : Fin 2 → Nat :=
  let c204 : Index := 204#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6425 : Index := Scalar.indexCast v6218
  ![204, v6425.toNat]
def k0_off284 (k0_t1 : Fin k0_t1_loop.trips) (c0_i32_1356 : BitVec 32) : Fin 2 → Nat :=
  let c205 : Index := 205#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6432 : Index := Scalar.indexCast v6218
  ![205, v6432.toNat]
def k0_off285 (k0_t1 : Fin k0_t1_loop.trips) (c0_i32_1356 : BitVec 32) : Fin 2 → Nat :=
  let c206 : Index := 206#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6449 : Index := Scalar.indexCast v6218
  ![206, v6449.toNat]
def k0_off286 (k0_t1 : Fin k0_t1_loop.trips) (c0_i32_1356 : BitVec 32) : Fin 2 → Nat :=
  let c207 : Index := 207#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6218 : BitVec 32 := Scalar.addi v252 c0_i32_1356
  let v6456 : Index := Scalar.indexCast v6218
  ![207, v6456.toNat]
def k0_off287 (k0_t1 : Fin k0_t1_loop.trips) (c0_i32_1462 : BitVec 32) : Fin 2 → Nat :=
  let c1664 : Index := 1664#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6716 : Index := Scalar.indexCast v6715
  ![1664, v6716.toNat]
def k0_off288 (k0_t1 : Fin k0_t1_loop.trips) (c0_i32_1462 : BitVec 32) : Fin 2 → Nat :=
  let c1696 : Index := 1696#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6720 : Index := Scalar.indexCast v6715
  ![1696, v6720.toNat]
def k0_off289 (k0_t1 : Fin k0_t1_loop.trips) (c0_i32_1462 : BitVec 32) : Fin 2 → Nat :=
  let c832_1463 : Index := 832#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6724 : Index := Scalar.indexCast v6715
  ![832, v6724.toNat]
def k0_off290 (k0_t1 : Fin k0_t1_loop.trips) (c0_i32_1462 : BitVec 32) : Fin 2 → Nat :=
  let c208_1474 : Index := 208#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6752 : Index := Scalar.indexCast v6715
  ![208, v6752.toNat]
def k0_off291 (k0_t1 : Fin k0_t1_loop.trips) (c0_i32_1462 : BitVec 32) : Fin 2 → Nat :=
  let c209 : Index := 209#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6759 : Index := Scalar.indexCast v6715
  ![209, v6759.toNat]
def k0_off292 (k0_t1 : Fin k0_t1_loop.trips) (c0_i32_1462 : BitVec 32) : Fin 2 → Nat :=
  let c210 : Index := 210#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6776 : Index := Scalar.indexCast v6715
  ![210, v6776.toNat]
def k0_off293 (k0_t1 : Fin k0_t1_loop.trips) (c0_i32_1462 : BitVec 32) : Fin 2 → Nat :=
  let c211 : Index := 211#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6783 : Index := Scalar.indexCast v6715
  ![211, v6783.toNat]
def k0_off294 (k0_t1 : Fin k0_t1_loop.trips) (c0_i32_1462 : BitVec 32) : Fin 2 → Nat :=
  let c212 : Index := 212#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6800 : Index := Scalar.indexCast v6715
  ![212, v6800.toNat]
def k0_off295 (k0_t1 : Fin k0_t1_loop.trips) (c0_i32_1462 : BitVec 32) : Fin 2 → Nat :=
  let c213 : Index := 213#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6807 : Index := Scalar.indexCast v6715
  ![213, v6807.toNat]
def k0_off296 (k0_t1 : Fin k0_t1_loop.trips) (c0_i32_1462 : BitVec 32) : Fin 2 → Nat :=
  let c214 : Index := 214#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6824 : Index := Scalar.indexCast v6715
  ![214, v6824.toNat]
def k0_off297 (k0_t1 : Fin k0_t1_loop.trips) (c0_i32_1462 : BitVec 32) : Fin 2 → Nat :=
  let c215 : Index := 215#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6831 : Index := Scalar.indexCast v6715
  ![215, v6831.toNat]
def k0_off298 (k0_t1 : Fin k0_t1_loop.trips) (c0_i32_1462 : BitVec 32) : Fin 2 → Nat :=
  let c1728 : Index := 1728#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6838 : Index := Scalar.indexCast v6715
  ![1728, v6838.toNat]
def k0_off299 (k0_t1 : Fin k0_t1_loop.trips) (c0_i32_1462 : BitVec 32) : Fin 2 → Nat :=
  let c1760 : Index := 1760#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6842 : Index := Scalar.indexCast v6715
  ![1760, v6842.toNat]
def k0_off300 (k0_t1 : Fin k0_t1_loop.trips) (c0_i32_1462 : BitVec 32) : Fin 2 → Nat :=
  let c864_1484 : Index := 864#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6846 : Index := Scalar.indexCast v6715
  ![864, v6846.toNat]
def k0_off301 (k0_t1 : Fin k0_t1_loop.trips) (c0_i32_1462 : BitVec 32) : Fin 2 → Nat :=
  let c216 : Index := 216#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6874 : Index := Scalar.indexCast v6715
  ![216, v6874.toNat]
def k0_off302 (k0_t1 : Fin k0_t1_loop.trips) (c0_i32_1462 : BitVec 32) : Fin 2 → Nat :=
  let c217 : Index := 217#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6881 : Index := Scalar.indexCast v6715
  ![217, v6881.toNat]
def k0_off303 (k0_t1 : Fin k0_t1_loop.trips) (c0_i32_1462 : BitVec 32) : Fin 2 → Nat :=
  let c218 : Index := 218#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6898 : Index := Scalar.indexCast v6715
  ![218, v6898.toNat]
def k0_off304 (k0_t1 : Fin k0_t1_loop.trips) (c0_i32_1462 : BitVec 32) : Fin 2 → Nat :=
  let c219 : Index := 219#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6905 : Index := Scalar.indexCast v6715
  ![219, v6905.toNat]
def k0_off305 (k0_t1 : Fin k0_t1_loop.trips) (c0_i32_1462 : BitVec 32) : Fin 2 → Nat :=
  let c220 : Index := 220#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6922 : Index := Scalar.indexCast v6715
  ![220, v6922.toNat]
def k0_off306 (k0_t1 : Fin k0_t1_loop.trips) (c0_i32_1462 : BitVec 32) : Fin 2 → Nat :=
  let c221 : Index := 221#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6929 : Index := Scalar.indexCast v6715
  ![221, v6929.toNat]
def k0_off307 (k0_t1 : Fin k0_t1_loop.trips) (c0_i32_1462 : BitVec 32) : Fin 2 → Nat :=
  let c222 : Index := 222#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6946 : Index := Scalar.indexCast v6715
  ![222, v6946.toNat]
def k0_off308 (k0_t1 : Fin k0_t1_loop.trips) (c0_i32_1462 : BitVec 32) : Fin 2 → Nat :=
  let c223 : Index := 223#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v6715 : BitVec 32 := Scalar.addi v252 c0_i32_1462
  let v6953 : Index := Scalar.indexCast v6715
  ![223, v6953.toNat]
def k0_off309 (k0_t1 : Fin k0_t1_loop.trips) (c0_i32_1567 : BitVec 32) : Fin 2 → Nat :=
  let c1792_1568 : Index := 1792#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7213 : Index := Scalar.indexCast v7212
  ![1792, v7213.toNat]
def k0_off310 (k0_t1 : Fin k0_t1_loop.trips) (c0_i32_1567 : BitVec 32) : Fin 2 → Nat :=
  let c1824 : Index := 1824#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7217 : Index := Scalar.indexCast v7212
  ![1824, v7217.toNat]
def k0_off311 (k0_t1 : Fin k0_t1_loop.trips) (c0_i32_1567 : BitVec 32) : Fin 2 → Nat :=
  let c896_1569 : Index := 896#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7221 : Index := Scalar.indexCast v7212
  ![896, v7221.toNat]
def k0_off312 (k0_t1 : Fin k0_t1_loop.trips) (c0_i32_1567 : BitVec 32) : Fin 2 → Nat :=
  let c224_1580 : Index := 224#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7249 : Index := Scalar.indexCast v7212
  ![224, v7249.toNat]
def k0_off313 (k0_t1 : Fin k0_t1_loop.trips) (c0_i32_1567 : BitVec 32) : Fin 2 → Nat :=
  let c225 : Index := 225#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7256 : Index := Scalar.indexCast v7212
  ![225, v7256.toNat]
def k0_off314 (k0_t1 : Fin k0_t1_loop.trips) (c0_i32_1567 : BitVec 32) : Fin 2 → Nat :=
  let c226 : Index := 226#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7273 : Index := Scalar.indexCast v7212
  ![226, v7273.toNat]
def k0_off315 (k0_t1 : Fin k0_t1_loop.trips) (c0_i32_1567 : BitVec 32) : Fin 2 → Nat :=
  let c227 : Index := 227#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7280 : Index := Scalar.indexCast v7212
  ![227, v7280.toNat]
def k0_off316 (k0_t1 : Fin k0_t1_loop.trips) (c0_i32_1567 : BitVec 32) : Fin 2 → Nat :=
  let c228 : Index := 228#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7297 : Index := Scalar.indexCast v7212
  ![228, v7297.toNat]
def k0_off317 (k0_t1 : Fin k0_t1_loop.trips) (c0_i32_1567 : BitVec 32) : Fin 2 → Nat :=
  let c229 : Index := 229#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7304 : Index := Scalar.indexCast v7212
  ![229, v7304.toNat]
def k0_off318 (k0_t1 : Fin k0_t1_loop.trips) (c0_i32_1567 : BitVec 32) : Fin 2 → Nat :=
  let c230 : Index := 230#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7321 : Index := Scalar.indexCast v7212
  ![230, v7321.toNat]
def k0_off319 (k0_t1 : Fin k0_t1_loop.trips) (c0_i32_1567 : BitVec 32) : Fin 2 → Nat :=
  let c231 : Index := 231#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7328 : Index := Scalar.indexCast v7212
  ![231, v7328.toNat]
def k0_off320 (k0_t1 : Fin k0_t1_loop.trips) (c0_i32_1567 : BitVec 32) : Fin 2 → Nat :=
  let c1856 : Index := 1856#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7335 : Index := Scalar.indexCast v7212
  ![1856, v7335.toNat]
def k0_off321 (k0_t1 : Fin k0_t1_loop.trips) (c0_i32_1567 : BitVec 32) : Fin 2 → Nat :=
  let c1888 : Index := 1888#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7339 : Index := Scalar.indexCast v7212
  ![1888, v7339.toNat]
def k0_off322 (k0_t1 : Fin k0_t1_loop.trips) (c0_i32_1567 : BitVec 32) : Fin 2 → Nat :=
  let c928_1590 : Index := 928#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7343 : Index := Scalar.indexCast v7212
  ![928, v7343.toNat]
def k0_off323 (k0_t1 : Fin k0_t1_loop.trips) (c0_i32_1567 : BitVec 32) : Fin 2 → Nat :=
  let c232 : Index := 232#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7371 : Index := Scalar.indexCast v7212
  ![232, v7371.toNat]
def k0_off324 (k0_t1 : Fin k0_t1_loop.trips) (c0_i32_1567 : BitVec 32) : Fin 2 → Nat :=
  let c233 : Index := 233#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7378 : Index := Scalar.indexCast v7212
  ![233, v7378.toNat]
def k0_off325 (k0_t1 : Fin k0_t1_loop.trips) (c0_i32_1567 : BitVec 32) : Fin 2 → Nat :=
  let c234 : Index := 234#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7395 : Index := Scalar.indexCast v7212
  ![234, v7395.toNat]
def k0_off326 (k0_t1 : Fin k0_t1_loop.trips) (c0_i32_1567 : BitVec 32) : Fin 2 → Nat :=
  let c235 : Index := 235#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7402 : Index := Scalar.indexCast v7212
  ![235, v7402.toNat]
def k0_off327 (k0_t1 : Fin k0_t1_loop.trips) (c0_i32_1567 : BitVec 32) : Fin 2 → Nat :=
  let c236 : Index := 236#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7419 : Index := Scalar.indexCast v7212
  ![236, v7419.toNat]
def k0_off328 (k0_t1 : Fin k0_t1_loop.trips) (c0_i32_1567 : BitVec 32) : Fin 2 → Nat :=
  let c237 : Index := 237#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7426 : Index := Scalar.indexCast v7212
  ![237, v7426.toNat]
def k0_off329 (k0_t1 : Fin k0_t1_loop.trips) (c0_i32_1567 : BitVec 32) : Fin 2 → Nat :=
  let c238 : Index := 238#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7443 : Index := Scalar.indexCast v7212
  ![238, v7443.toNat]
def k0_off330 (k0_t1 : Fin k0_t1_loop.trips) (c0_i32_1567 : BitVec 32) : Fin 2 → Nat :=
  let c239 : Index := 239#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7212 : BitVec 32 := Scalar.addi v252 c0_i32_1567
  let v7450 : Index := Scalar.indexCast v7212
  ![239, v7450.toNat]
def k0_off331 (k0_t1 : Fin k0_t1_loop.trips) (c0_i32_1673 : BitVec 32) : Fin 2 → Nat :=
  let c1920 : Index := 1920#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7710 : Index := Scalar.indexCast v7709
  ![1920, v7710.toNat]
def k0_off332 (k0_t1 : Fin k0_t1_loop.trips) (c0_i32_1673 : BitVec 32) : Fin 2 → Nat :=
  let c1952 : Index := 1952#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7714 : Index := Scalar.indexCast v7709
  ![1952, v7714.toNat]
def k0_off333 (k0_t1 : Fin k0_t1_loop.trips) (c0_i32_1673 : BitVec 32) : Fin 2 → Nat :=
  let c960_1674 : Index := 960#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7718 : Index := Scalar.indexCast v7709
  ![960, v7718.toNat]
def k0_off334 (k0_t1 : Fin k0_t1_loop.trips) (c0_i32_1673 : BitVec 32) : Fin 2 → Nat :=
  let c240_1685 : Index := 240#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7746 : Index := Scalar.indexCast v7709
  ![240, v7746.toNat]
def k0_off335 (k0_t1 : Fin k0_t1_loop.trips) (c0_i32_1673 : BitVec 32) : Fin 2 → Nat :=
  let c241 : Index := 241#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7753 : Index := Scalar.indexCast v7709
  ![241, v7753.toNat]
def k0_off336 (k0_t1 : Fin k0_t1_loop.trips) (c0_i32_1673 : BitVec 32) : Fin 2 → Nat :=
  let c242 : Index := 242#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7770 : Index := Scalar.indexCast v7709
  ![242, v7770.toNat]
def k0_off337 (k0_t1 : Fin k0_t1_loop.trips) (c0_i32_1673 : BitVec 32) : Fin 2 → Nat :=
  let c243 : Index := 243#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7777 : Index := Scalar.indexCast v7709
  ![243, v7777.toNat]
def k0_off338 (k0_t1 : Fin k0_t1_loop.trips) (c0_i32_1673 : BitVec 32) : Fin 2 → Nat :=
  let c244 : Index := 244#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7794 : Index := Scalar.indexCast v7709
  ![244, v7794.toNat]
def k0_off339 (k0_t1 : Fin k0_t1_loop.trips) (c0_i32_1673 : BitVec 32) : Fin 2 → Nat :=
  let c245 : Index := 245#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7801 : Index := Scalar.indexCast v7709
  ![245, v7801.toNat]
def k0_off340 (k0_t1 : Fin k0_t1_loop.trips) (c0_i32_1673 : BitVec 32) : Fin 2 → Nat :=
  let c246 : Index := 246#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7818 : Index := Scalar.indexCast v7709
  ![246, v7818.toNat]
def k0_off341 (k0_t1 : Fin k0_t1_loop.trips) (c0_i32_1673 : BitVec 32) : Fin 2 → Nat :=
  let c247 : Index := 247#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7825 : Index := Scalar.indexCast v7709
  ![247, v7825.toNat]
def k0_off342 (k0_t1 : Fin k0_t1_loop.trips) (c0_i32_1673 : BitVec 32) : Fin 2 → Nat :=
  let c1984 : Index := 1984#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7832 : Index := Scalar.indexCast v7709
  ![1984, v7832.toNat]
def k0_off343 (k0_t1 : Fin k0_t1_loop.trips) (c0_i32_1673 : BitVec 32) : Fin 2 → Nat :=
  let c2016 : Index := 2016#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7836 : Index := Scalar.indexCast v7709
  ![2016, v7836.toNat]
def k0_off344 (k0_t1 : Fin k0_t1_loop.trips) (c0_i32_1673 : BitVec 32) : Fin 2 → Nat :=
  let c992_1695 : Index := 992#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7840 : Index := Scalar.indexCast v7709
  ![992, v7840.toNat]
def k0_off345 (k0_t1 : Fin k0_t1_loop.trips) (c0_i32_1673 : BitVec 32) : Fin 2 → Nat :=
  let c248 : Index := 248#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7868 : Index := Scalar.indexCast v7709
  ![248, v7868.toNat]
def k0_off346 (k0_t1 : Fin k0_t1_loop.trips) (c0_i32_1673 : BitVec 32) : Fin 2 → Nat :=
  let c249 : Index := 249#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7875 : Index := Scalar.indexCast v7709
  ![249, v7875.toNat]
def k0_off347 (k0_t1 : Fin k0_t1_loop.trips) (c0_i32_1673 : BitVec 32) : Fin 2 → Nat :=
  let c250 : Index := 250#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7892 : Index := Scalar.indexCast v7709
  ![250, v7892.toNat]
def k0_off348 (k0_t1 : Fin k0_t1_loop.trips) (c0_i32_1673 : BitVec 32) : Fin 2 → Nat :=
  let c251 : Index := 251#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7899 : Index := Scalar.indexCast v7709
  ![251, v7899.toNat]
def k0_off349 (k0_t1 : Fin k0_t1_loop.trips) (c0_i32_1673 : BitVec 32) : Fin 2 → Nat :=
  let c252 : Index := 252#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7916 : Index := Scalar.indexCast v7709
  ![252, v7916.toNat]
def k0_off350 (k0_t1 : Fin k0_t1_loop.trips) (c0_i32_1673 : BitVec 32) : Fin 2 → Nat :=
  let c253 : Index := 253#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7923 : Index := Scalar.indexCast v7709
  ![253, v7923.toNat]
def k0_off351 (k0_t1 : Fin k0_t1_loop.trips) (c0_i32_1673 : BitVec 32) : Fin 2 → Nat :=
  let c254 : Index := 254#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7940 : Index := Scalar.indexCast v7709
  ![254, v7940.toNat]
def k0_off352 (k0_t1 : Fin k0_t1_loop.trips) (c0_i32_1673 : BitVec 32) : Fin 2 → Nat :=
  let c255 : Index := 255#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v7709 : BitVec 32 := Scalar.addi v252 c0_i32_1673
  let v7947 : Index := Scalar.indexCast v7709
  ![255, v7947.toNat]
def k0_off353 (k0_t1 : Fin k0_t1_loop.trips) (c0_i32_1778 : BitVec 32) : Fin 2 → Nat :=
  let c2048_1779 : Index := 2048#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8207 : Index := Scalar.indexCast v8206
  ![2048, v8207.toNat]
def k0_off354 (k0_t1 : Fin k0_t1_loop.trips) (c0_i32_1778 : BitVec 32) : Fin 2 → Nat :=
  let c2080 : Index := 2080#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8211 : Index := Scalar.indexCast v8206
  ![2080, v8211.toNat]
def k0_off355 (k0_t1 : Fin k0_t1_loop.trips) (c0_i32_1778 : BitVec 32) : Fin 2 → Nat :=
  let c1024_1780 : Index := 1024#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8215 : Index := Scalar.indexCast v8206
  ![1024, v8215.toNat]
def k0_off356 (k0_t1 : Fin k0_t1_loop.trips) (c0_i32_1778 : BitVec 32) : Fin 2 → Nat :=
  let c256_1791 : Index := 256#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8243 : Index := Scalar.indexCast v8206
  ![256, v8243.toNat]
def k0_off357 (k0_t1 : Fin k0_t1_loop.trips) (c0_i32_1778 : BitVec 32) : Fin 2 → Nat :=
  let c257 : Index := 257#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8250 : Index := Scalar.indexCast v8206
  ![257, v8250.toNat]
def k0_off358 (k0_t1 : Fin k0_t1_loop.trips) (c0_i32_1778 : BitVec 32) : Fin 2 → Nat :=
  let c258 : Index := 258#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8267 : Index := Scalar.indexCast v8206
  ![258, v8267.toNat]
def k0_off359 (k0_t1 : Fin k0_t1_loop.trips) (c0_i32_1778 : BitVec 32) : Fin 2 → Nat :=
  let c259 : Index := 259#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8274 : Index := Scalar.indexCast v8206
  ![259, v8274.toNat]
def k0_off360 (k0_t1 : Fin k0_t1_loop.trips) (c0_i32_1778 : BitVec 32) : Fin 2 → Nat :=
  let c260 : Index := 260#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8291 : Index := Scalar.indexCast v8206
  ![260, v8291.toNat]
def k0_off361 (k0_t1 : Fin k0_t1_loop.trips) (c0_i32_1778 : BitVec 32) : Fin 2 → Nat :=
  let c261 : Index := 261#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8298 : Index := Scalar.indexCast v8206
  ![261, v8298.toNat]
def k0_off362 (k0_t1 : Fin k0_t1_loop.trips) (c0_i32_1778 : BitVec 32) : Fin 2 → Nat :=
  let c262 : Index := 262#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8315 : Index := Scalar.indexCast v8206
  ![262, v8315.toNat]
def k0_off363 (k0_t1 : Fin k0_t1_loop.trips) (c0_i32_1778 : BitVec 32) : Fin 2 → Nat :=
  let c263 : Index := 263#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8322 : Index := Scalar.indexCast v8206
  ![263, v8322.toNat]
def k0_off364 (k0_t1 : Fin k0_t1_loop.trips) (c0_i32_1778 : BitVec 32) : Fin 2 → Nat :=
  let c2112 : Index := 2112#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8329 : Index := Scalar.indexCast v8206
  ![2112, v8329.toNat]
def k0_off365 (k0_t1 : Fin k0_t1_loop.trips) (c0_i32_1778 : BitVec 32) : Fin 2 → Nat :=
  let c2144 : Index := 2144#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8333 : Index := Scalar.indexCast v8206
  ![2144, v8333.toNat]
def k0_off366 (k0_t1 : Fin k0_t1_loop.trips) (c0_i32_1778 : BitVec 32) : Fin 2 → Nat :=
  let c1056_1801 : Index := 1056#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8337 : Index := Scalar.indexCast v8206
  ![1056, v8337.toNat]
def k0_off367 (k0_t1 : Fin k0_t1_loop.trips) (c0_i32_1778 : BitVec 32) : Fin 2 → Nat :=
  let c264 : Index := 264#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8365 : Index := Scalar.indexCast v8206
  ![264, v8365.toNat]
def k0_off368 (k0_t1 : Fin k0_t1_loop.trips) (c0_i32_1778 : BitVec 32) : Fin 2 → Nat :=
  let c265 : Index := 265#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8372 : Index := Scalar.indexCast v8206
  ![265, v8372.toNat]
def k0_off369 (k0_t1 : Fin k0_t1_loop.trips) (c0_i32_1778 : BitVec 32) : Fin 2 → Nat :=
  let c266 : Index := 266#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8389 : Index := Scalar.indexCast v8206
  ![266, v8389.toNat]
def k0_off370 (k0_t1 : Fin k0_t1_loop.trips) (c0_i32_1778 : BitVec 32) : Fin 2 → Nat :=
  let c267 : Index := 267#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8396 : Index := Scalar.indexCast v8206
  ![267, v8396.toNat]
def k0_off371 (k0_t1 : Fin k0_t1_loop.trips) (c0_i32_1778 : BitVec 32) : Fin 2 → Nat :=
  let c268 : Index := 268#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8413 : Index := Scalar.indexCast v8206
  ![268, v8413.toNat]
def k0_off372 (k0_t1 : Fin k0_t1_loop.trips) (c0_i32_1778 : BitVec 32) : Fin 2 → Nat :=
  let c269 : Index := 269#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8420 : Index := Scalar.indexCast v8206
  ![269, v8420.toNat]
def k0_off373 (k0_t1 : Fin k0_t1_loop.trips) (c0_i32_1778 : BitVec 32) : Fin 2 → Nat :=
  let c270 : Index := 270#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8437 : Index := Scalar.indexCast v8206
  ![270, v8437.toNat]
def k0_off374 (k0_t1 : Fin k0_t1_loop.trips) (c0_i32_1778 : BitVec 32) : Fin 2 → Nat :=
  let c271 : Index := 271#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8206 : BitVec 32 := Scalar.addi v252 c0_i32_1778
  let v8444 : Index := Scalar.indexCast v8206
  ![271, v8444.toNat]
def k0_off375 (k0_t1 : Fin k0_t1_loop.trips) (c0_i32_1884 : BitVec 32) : Fin 2 → Nat :=
  let c2176 : Index := 2176#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8704 : Index := Scalar.indexCast v8703
  ![2176, v8704.toNat]
def k0_off376 (k0_t1 : Fin k0_t1_loop.trips) (c0_i32_1884 : BitVec 32) : Fin 2 → Nat :=
  let c2208 : Index := 2208#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8708 : Index := Scalar.indexCast v8703
  ![2208, v8708.toNat]
def k0_off377 (k0_t1 : Fin k0_t1_loop.trips) (c0_i32_1884 : BitVec 32) : Fin 2 → Nat :=
  let c1088_1885 : Index := 1088#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8712 : Index := Scalar.indexCast v8703
  ![1088, v8712.toNat]
def k0_off378 (k0_t1 : Fin k0_t1_loop.trips) (c0_i32_1884 : BitVec 32) : Fin 2 → Nat :=
  let c272_1896 : Index := 272#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8740 : Index := Scalar.indexCast v8703
  ![272, v8740.toNat]
def k0_off379 (k0_t1 : Fin k0_t1_loop.trips) (c0_i32_1884 : BitVec 32) : Fin 2 → Nat :=
  let c273 : Index := 273#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8747 : Index := Scalar.indexCast v8703
  ![273, v8747.toNat]
def k0_off380 (k0_t1 : Fin k0_t1_loop.trips) (c0_i32_1884 : BitVec 32) : Fin 2 → Nat :=
  let c274 : Index := 274#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8764 : Index := Scalar.indexCast v8703
  ![274, v8764.toNat]
def k0_off381 (k0_t1 : Fin k0_t1_loop.trips) (c0_i32_1884 : BitVec 32) : Fin 2 → Nat :=
  let c275 : Index := 275#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8771 : Index := Scalar.indexCast v8703
  ![275, v8771.toNat]
def k0_off382 (k0_t1 : Fin k0_t1_loop.trips) (c0_i32_1884 : BitVec 32) : Fin 2 → Nat :=
  let c276 : Index := 276#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8788 : Index := Scalar.indexCast v8703
  ![276, v8788.toNat]
def k0_off383 (k0_t1 : Fin k0_t1_loop.trips) (c0_i32_1884 : BitVec 32) : Fin 2 → Nat :=
  let c277 : Index := 277#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8795 : Index := Scalar.indexCast v8703
  ![277, v8795.toNat]
def k0_off384 (k0_t1 : Fin k0_t1_loop.trips) (c0_i32_1884 : BitVec 32) : Fin 2 → Nat :=
  let c278 : Index := 278#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8812 : Index := Scalar.indexCast v8703
  ![278, v8812.toNat]
def k0_off385 (k0_t1 : Fin k0_t1_loop.trips) (c0_i32_1884 : BitVec 32) : Fin 2 → Nat :=
  let c279 : Index := 279#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8819 : Index := Scalar.indexCast v8703
  ![279, v8819.toNat]
def k0_off386 (k0_t1 : Fin k0_t1_loop.trips) (c0_i32_1884 : BitVec 32) : Fin 2 → Nat :=
  let c2240 : Index := 2240#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8826 : Index := Scalar.indexCast v8703
  ![2240, v8826.toNat]
def k0_off387 (k0_t1 : Fin k0_t1_loop.trips) (c0_i32_1884 : BitVec 32) : Fin 2 → Nat :=
  let c2272 : Index := 2272#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8830 : Index := Scalar.indexCast v8703
  ![2272, v8830.toNat]
def k0_off388 (k0_t1 : Fin k0_t1_loop.trips) (c0_i32_1884 : BitVec 32) : Fin 2 → Nat :=
  let c1120_1906 : Index := 1120#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8834 : Index := Scalar.indexCast v8703
  ![1120, v8834.toNat]
def k0_off389 (k0_t1 : Fin k0_t1_loop.trips) (c0_i32_1884 : BitVec 32) : Fin 2 → Nat :=
  let c280 : Index := 280#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8862 : Index := Scalar.indexCast v8703
  ![280, v8862.toNat]
def k0_off390 (k0_t1 : Fin k0_t1_loop.trips) (c0_i32_1884 : BitVec 32) : Fin 2 → Nat :=
  let c281 : Index := 281#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8869 : Index := Scalar.indexCast v8703
  ![281, v8869.toNat]
def k0_off391 (k0_t1 : Fin k0_t1_loop.trips) (c0_i32_1884 : BitVec 32) : Fin 2 → Nat :=
  let c282 : Index := 282#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8886 : Index := Scalar.indexCast v8703
  ![282, v8886.toNat]
def k0_off392 (k0_t1 : Fin k0_t1_loop.trips) (c0_i32_1884 : BitVec 32) : Fin 2 → Nat :=
  let c283 : Index := 283#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8893 : Index := Scalar.indexCast v8703
  ![283, v8893.toNat]
def k0_off393 (k0_t1 : Fin k0_t1_loop.trips) (c0_i32_1884 : BitVec 32) : Fin 2 → Nat :=
  let c284 : Index := 284#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8910 : Index := Scalar.indexCast v8703
  ![284, v8910.toNat]
def k0_off394 (k0_t1 : Fin k0_t1_loop.trips) (c0_i32_1884 : BitVec 32) : Fin 2 → Nat :=
  let c285 : Index := 285#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8917 : Index := Scalar.indexCast v8703
  ![285, v8917.toNat]
def k0_off395 (k0_t1 : Fin k0_t1_loop.trips) (c0_i32_1884 : BitVec 32) : Fin 2 → Nat :=
  let c286 : Index := 286#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8934 : Index := Scalar.indexCast v8703
  ![286, v8934.toNat]
def k0_off396 (k0_t1 : Fin k0_t1_loop.trips) (c0_i32_1884 : BitVec 32) : Fin 2 → Nat :=
  let c287 : Index := 287#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v8703 : BitVec 32 := Scalar.addi v252 c0_i32_1884
  let v8941 : Index := Scalar.indexCast v8703
  ![287, v8941.toNat]
def k0_off397 (k0_t1 : Fin k0_t1_loop.trips) (c0_i32_1989 : BitVec 32) : Fin 2 → Nat :=
  let c2304_1990 : Index := 2304#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9201 : Index := Scalar.indexCast v9200
  ![2304, v9201.toNat]
def k0_off398 (k0_t1 : Fin k0_t1_loop.trips) (c0_i32_1989 : BitVec 32) : Fin 2 → Nat :=
  let c2336 : Index := 2336#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9205 : Index := Scalar.indexCast v9200
  ![2336, v9205.toNat]
def k0_off399 (k0_t1 : Fin k0_t1_loop.trips) (c0_i32_1989 : BitVec 32) : Fin 2 → Nat :=
  let c1152_1991 : Index := 1152#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9209 : Index := Scalar.indexCast v9200
  ![1152, v9209.toNat]
def k0_off400 (k0_t1 : Fin k0_t1_loop.trips) (c0_i32_1989 : BitVec 32) : Fin 2 → Nat :=
  let c288_2002 : Index := 288#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9237 : Index := Scalar.indexCast v9200
  ![288, v9237.toNat]
def k0_off401 (k0_t1 : Fin k0_t1_loop.trips) (c0_i32_1989 : BitVec 32) : Fin 2 → Nat :=
  let c289 : Index := 289#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9244 : Index := Scalar.indexCast v9200
  ![289, v9244.toNat]
def k0_off402 (k0_t1 : Fin k0_t1_loop.trips) (c0_i32_1989 : BitVec 32) : Fin 2 → Nat :=
  let c290 : Index := 290#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9261 : Index := Scalar.indexCast v9200
  ![290, v9261.toNat]
def k0_off403 (k0_t1 : Fin k0_t1_loop.trips) (c0_i32_1989 : BitVec 32) : Fin 2 → Nat :=
  let c291 : Index := 291#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9268 : Index := Scalar.indexCast v9200
  ![291, v9268.toNat]
def k0_off404 (k0_t1 : Fin k0_t1_loop.trips) (c0_i32_1989 : BitVec 32) : Fin 2 → Nat :=
  let c292 : Index := 292#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9285 : Index := Scalar.indexCast v9200
  ![292, v9285.toNat]
def k0_off405 (k0_t1 : Fin k0_t1_loop.trips) (c0_i32_1989 : BitVec 32) : Fin 2 → Nat :=
  let c293 : Index := 293#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9292 : Index := Scalar.indexCast v9200
  ![293, v9292.toNat]
def k0_off406 (k0_t1 : Fin k0_t1_loop.trips) (c0_i32_1989 : BitVec 32) : Fin 2 → Nat :=
  let c294 : Index := 294#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9309 : Index := Scalar.indexCast v9200
  ![294, v9309.toNat]
def k0_off407 (k0_t1 : Fin k0_t1_loop.trips) (c0_i32_1989 : BitVec 32) : Fin 2 → Nat :=
  let c295 : Index := 295#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9316 : Index := Scalar.indexCast v9200
  ![295, v9316.toNat]
def k0_off408 (k0_t1 : Fin k0_t1_loop.trips) (c0_i32_1989 : BitVec 32) : Fin 2 → Nat :=
  let c2368 : Index := 2368#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9323 : Index := Scalar.indexCast v9200
  ![2368, v9323.toNat]
def k0_off409 (k0_t1 : Fin k0_t1_loop.trips) (c0_i32_1989 : BitVec 32) : Fin 2 → Nat :=
  let c2400 : Index := 2400#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9327 : Index := Scalar.indexCast v9200
  ![2400, v9327.toNat]
def k0_off410 (k0_t1 : Fin k0_t1_loop.trips) (c0_i32_1989 : BitVec 32) : Fin 2 → Nat :=
  let c1184_2012 : Index := 1184#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9331 : Index := Scalar.indexCast v9200
  ![1184, v9331.toNat]
def k0_off411 (k0_t1 : Fin k0_t1_loop.trips) (c0_i32_1989 : BitVec 32) : Fin 2 → Nat :=
  let c296 : Index := 296#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9359 : Index := Scalar.indexCast v9200
  ![296, v9359.toNat]
def k0_off412 (k0_t1 : Fin k0_t1_loop.trips) (c0_i32_1989 : BitVec 32) : Fin 2 → Nat :=
  let c297 : Index := 297#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9366 : Index := Scalar.indexCast v9200
  ![297, v9366.toNat]
def k0_off413 (k0_t1 : Fin k0_t1_loop.trips) (c0_i32_1989 : BitVec 32) : Fin 2 → Nat :=
  let c298 : Index := 298#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9383 : Index := Scalar.indexCast v9200
  ![298, v9383.toNat]
def k0_off414 (k0_t1 : Fin k0_t1_loop.trips) (c0_i32_1989 : BitVec 32) : Fin 2 → Nat :=
  let c299 : Index := 299#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9390 : Index := Scalar.indexCast v9200
  ![299, v9390.toNat]
def k0_off415 (k0_t1 : Fin k0_t1_loop.trips) (c0_i32_1989 : BitVec 32) : Fin 2 → Nat :=
  let c300 : Index := 300#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9407 : Index := Scalar.indexCast v9200
  ![300, v9407.toNat]
def k0_off416 (k0_t1 : Fin k0_t1_loop.trips) (c0_i32_1989 : BitVec 32) : Fin 2 → Nat :=
  let c301 : Index := 301#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9414 : Index := Scalar.indexCast v9200
  ![301, v9414.toNat]
def k0_off417 (k0_t1 : Fin k0_t1_loop.trips) (c0_i32_1989 : BitVec 32) : Fin 2 → Nat :=
  let c302 : Index := 302#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9431 : Index := Scalar.indexCast v9200
  ![302, v9431.toNat]
def k0_off418 (k0_t1 : Fin k0_t1_loop.trips) (c0_i32_1989 : BitVec 32) : Fin 2 → Nat :=
  let c303 : Index := 303#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9200 : BitVec 32 := Scalar.addi v252 c0_i32_1989
  let v9438 : Index := Scalar.indexCast v9200
  ![303, v9438.toNat]
def k0_off419 (k0_t1 : Fin k0_t1_loop.trips) (c0_i32_2095 : BitVec 32) : Fin 2 → Nat :=
  let c2432 : Index := 2432#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9698 : Index := Scalar.indexCast v9697
  ![2432, v9698.toNat]
def k0_off420 (k0_t1 : Fin k0_t1_loop.trips) (c0_i32_2095 : BitVec 32) : Fin 2 → Nat :=
  let c2464 : Index := 2464#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9702 : Index := Scalar.indexCast v9697
  ![2464, v9702.toNat]
def k0_off421 (k0_t1 : Fin k0_t1_loop.trips) (c0_i32_2095 : BitVec 32) : Fin 2 → Nat :=
  let c1216_2096 : Index := 1216#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9706 : Index := Scalar.indexCast v9697
  ![1216, v9706.toNat]
def k0_off422 (k0_t1 : Fin k0_t1_loop.trips) (c0_i32_2095 : BitVec 32) : Fin 2 → Nat :=
  let c304_2107 : Index := 304#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9734 : Index := Scalar.indexCast v9697
  ![304, v9734.toNat]
def k0_off423 (k0_t1 : Fin k0_t1_loop.trips) (c0_i32_2095 : BitVec 32) : Fin 2 → Nat :=
  let c305 : Index := 305#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9741 : Index := Scalar.indexCast v9697
  ![305, v9741.toNat]
def k0_off424 (k0_t1 : Fin k0_t1_loop.trips) (c0_i32_2095 : BitVec 32) : Fin 2 → Nat :=
  let c306 : Index := 306#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9758 : Index := Scalar.indexCast v9697
  ![306, v9758.toNat]
def k0_off425 (k0_t1 : Fin k0_t1_loop.trips) (c0_i32_2095 : BitVec 32) : Fin 2 → Nat :=
  let c307 : Index := 307#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9765 : Index := Scalar.indexCast v9697
  ![307, v9765.toNat]
def k0_off426 (k0_t1 : Fin k0_t1_loop.trips) (c0_i32_2095 : BitVec 32) : Fin 2 → Nat :=
  let c308 : Index := 308#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9782 : Index := Scalar.indexCast v9697
  ![308, v9782.toNat]
def k0_off427 (k0_t1 : Fin k0_t1_loop.trips) (c0_i32_2095 : BitVec 32) : Fin 2 → Nat :=
  let c309 : Index := 309#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9789 : Index := Scalar.indexCast v9697
  ![309, v9789.toNat]
def k0_off428 (k0_t1 : Fin k0_t1_loop.trips) (c0_i32_2095 : BitVec 32) : Fin 2 → Nat :=
  let c310 : Index := 310#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9806 : Index := Scalar.indexCast v9697
  ![310, v9806.toNat]
def k0_off429 (k0_t1 : Fin k0_t1_loop.trips) (c0_i32_2095 : BitVec 32) : Fin 2 → Nat :=
  let c311 : Index := 311#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9813 : Index := Scalar.indexCast v9697
  ![311, v9813.toNat]
def k0_off430 (k0_t1 : Fin k0_t1_loop.trips) (c0_i32_2095 : BitVec 32) : Fin 2 → Nat :=
  let c2496 : Index := 2496#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9820 : Index := Scalar.indexCast v9697
  ![2496, v9820.toNat]
def k0_off431 (k0_t1 : Fin k0_t1_loop.trips) (c0_i32_2095 : BitVec 32) : Fin 2 → Nat :=
  let c2528 : Index := 2528#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9824 : Index := Scalar.indexCast v9697
  ![2528, v9824.toNat]
def k0_off432 (k0_t1 : Fin k0_t1_loop.trips) (c0_i32_2095 : BitVec 32) : Fin 2 → Nat :=
  let c1248_2117 : Index := 1248#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9828 : Index := Scalar.indexCast v9697
  ![1248, v9828.toNat]
def k0_off433 (k0_t1 : Fin k0_t1_loop.trips) (c0_i32_2095 : BitVec 32) : Fin 2 → Nat :=
  let c312 : Index := 312#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9856 : Index := Scalar.indexCast v9697
  ![312, v9856.toNat]
def k0_off434 (k0_t1 : Fin k0_t1_loop.trips) (c0_i32_2095 : BitVec 32) : Fin 2 → Nat :=
  let c313 : Index := 313#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9863 : Index := Scalar.indexCast v9697
  ![313, v9863.toNat]
def k0_off435 (k0_t1 : Fin k0_t1_loop.trips) (c0_i32_2095 : BitVec 32) : Fin 2 → Nat :=
  let c314 : Index := 314#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9880 : Index := Scalar.indexCast v9697
  ![314, v9880.toNat]
def k0_off436 (k0_t1 : Fin k0_t1_loop.trips) (c0_i32_2095 : BitVec 32) : Fin 2 → Nat :=
  let c315 : Index := 315#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9887 : Index := Scalar.indexCast v9697
  ![315, v9887.toNat]
def k0_off437 (k0_t1 : Fin k0_t1_loop.trips) (c0_i32_2095 : BitVec 32) : Fin 2 → Nat :=
  let c316 : Index := 316#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9904 : Index := Scalar.indexCast v9697
  ![316, v9904.toNat]
def k0_off438 (k0_t1 : Fin k0_t1_loop.trips) (c0_i32_2095 : BitVec 32) : Fin 2 → Nat :=
  let c317 : Index := 317#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9911 : Index := Scalar.indexCast v9697
  ![317, v9911.toNat]
def k0_off439 (k0_t1 : Fin k0_t1_loop.trips) (c0_i32_2095 : BitVec 32) : Fin 2 → Nat :=
  let c318 : Index := 318#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9928 : Index := Scalar.indexCast v9697
  ![318, v9928.toNat]
def k0_off440 (k0_t1 : Fin k0_t1_loop.trips) (c0_i32_2095 : BitVec 32) : Fin 2 → Nat :=
  let c319 : Index := 319#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v9697 : BitVec 32 := Scalar.addi v252 c0_i32_2095
  let v9935 : Index := Scalar.indexCast v9697
  ![319, v9935.toNat]
def k0_off441 (k0_t1 : Fin k0_t1_loop.trips) : Fin 2 → Nat :=
  let c0_2200 : Index := 0#32
  let c0_i32_65 : BitVec 32 := 0#32
  let c1_i32 : BitVec 32 := 1#32
  let arg8 : BitVec 32 := Scf.iv c0_i32_65 c1_i32 k0_t1
  let c256_i32 : BitVec 32 := 256#32
  let v251 : BitVec 32 := Scalar.muli arg8 c256_i32
  let v252 : BitVec 32 := v251
  let v10195 : Index := Scalar.indexCast v252
  ![0, v10195.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2560x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20x16x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x1024 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x5120 : Shape := ⟨3, ![32, 1, 5120]⟩
abbrev S35840x20x2x64 : Shape := ⟨4, ![35840, 20, 2, 64]⟩
abbrev S35840x20x2x32 : Shape := ⟨4, ![35840, 20, 2, 32]⟩
abbrev S35840x20x16 : Shape := ⟨3, ![35840, 20, 16]⟩
abbrev S35840x20 : Shape := ⟨2, ![35840, 20]⟩
abbrev S_ : Shape := ⟨0, ![]⟩
abbrev S35840x20x1 : Shape := ⟨3, ![35840, 20, 1]⟩
abbrev S35840x20x2x4x2 : Shape := ⟨5, ![35840, 20, 2, 4, 2]⟩
abbrev S32x1x20x2x4x2x16 : Shape := ⟨7, ![32, 1, 20, 2, 4, 2, 16]⟩
abbrev S32x1x20x2x1x2x16 : Shape := ⟨7, ![32, 1, 20, 2, 1, 2, 16]⟩
abbrev S32x1x20x2x2x16 : Shape := ⟨6, ![32, 1, 20, 2, 2, 16]⟩
abbrev S35840x20x2x1x2 : Shape := ⟨5, ![35840, 20, 2, 1, 2]⟩
abbrev S35840x20x2x2 : Shape := ⟨4, ![35840, 20, 2, 2]⟩
abbrev S35840x20x2x2x16 : Shape := ⟨5, ![35840, 20, 2, 2, 16]⟩
abbrev S35840x20x2x2x1 : Shape := ⟨5, ![35840, 20, 2, 2, 1]⟩
abbrev S32x1x35840 : Shape := ⟨3, ![32, 1, 35840]⟩
abbrev S32x35840 : Shape := ⟨2, ![32, 35840]⟩

abbrev nBuf : Space → Nat
  | .hbm => 185
  | .vmem => 0
  | .smem => 0
  | _ => 0

abbrev hbmTy0_0 (i : Nat) : BufTy := match i % 128 with
  | 0 => ⟨S32x1x5120, .bf16⟩
  | 1 => ⟨S35840x20x2x64, .i8⟩
  | 2 => ⟨S35840x20x2x32, .i8⟩
  | 3 => ⟨S35840x20x16, .i8⟩
  | 4 => ⟨S35840x20, .i16⟩
  | 5 => ⟨S35840x20x16, .i32⟩
  | 6 => ⟨S35840x20x16, .f32⟩
  | 7 => ⟨S35840x20, .i32⟩
  | 8 => ⟨S_, .i32⟩
  | 9 => ⟨S35840x20, .i32⟩
  | 10 => ⟨S35840x20, .i32⟩
  | 11 => ⟨S_, .i32⟩
  | 12 => ⟨S35840x20, .i32⟩
  | 13 => ⟨S35840x20, .i32⟩
  | 14 => ⟨S_, .i32⟩
  | 15 => ⟨S35840x20, .i32⟩
  | 16 => ⟨S35840x20, .i32⟩
  | 17 => ⟨S_, .i32⟩
  | 18 => ⟨S35840x20, .i32⟩
  | 19 => ⟨S35840x20, .i32⟩
  | 20 => ⟨S_, .i32⟩
  | 21 => ⟨S35840x20, .i32⟩
  | 22 => ⟨S35840x20, .i32⟩
  | 23 => ⟨S35840x20, .f32⟩
  | 24 => ⟨S_, .f32⟩
  | 25 => ⟨S35840x20, .f32⟩
  | 26 => ⟨S35840x20, .f32⟩
  | 27 => ⟨S_, .f32⟩
  | 28 => ⟨S35840x20, .f32⟩
  | 29 => ⟨S35840x20, .f32⟩
  | 30 => ⟨S_, .i32⟩
  | 31 => ⟨S35840x20, .i32⟩
  | 32 => ⟨S35840x20, .i32⟩
  | 33 => ⟨S35840x20, .f32⟩
  | 34 => ⟨S_, .f32⟩
  | 35 => ⟨S35840x20, .f32⟩
  | 36 => ⟨S35840x20, .f32⟩
  | 37 => ⟨S35840x20, .f32⟩
  | 38 => ⟨S_, .i32⟩
  | 39 => ⟨S35840x20, .i32⟩
  | 40 => ⟨S35840x20, .i1⟩
  | 41 => ⟨S_, .i32⟩
  | 42 => ⟨S35840x20, .i32⟩
  | 43 => ⟨S35840x20, .i1⟩
  | 44 => ⟨S_, .f32⟩
  | 45 => ⟨S_, .f32⟩
  | 46 => ⟨S35840x20, .f32⟩
  | 47 => ⟨S35840x20, .f32⟩
  | 48 => ⟨S35840x20, .f32⟩
  | 49 => ⟨S_, .i32⟩
  | 50 => ⟨S35840x20, .i32⟩
  | 51 => ⟨S35840x20, .i1⟩
  | 52 => ⟨S35840x20, .f32⟩
  | 53 => ⟨S35840x20, .f32⟩
  | 54 => ⟨S_, .i32⟩
  | 55 => ⟨S35840x20, .i32⟩
  | 56 => ⟨S35840x20, .i1⟩
  | 57 => ⟨S_, .i32⟩
  | 58 => ⟨S35840x20, .i32⟩
  | 59 => ⟨S35840x20, .i1⟩
  | 60 => ⟨S35840x20, .i1⟩
  | 61 => ⟨S_, .f32⟩
  | 62 => ⟨S_, .f32⟩
  | 63 => ⟨S35840x20, .f32⟩
  | 64 => ⟨S35840x20, .f32⟩
  | 65 => ⟨S35840x20x1, .f32⟩
  | 66 => ⟨S35840x20x16, .f32⟩
  | 67 => ⟨S35840x20x16, .f32⟩
  | 68 => ⟨S35840x20x16, .bf16⟩
  | 69 => ⟨S35840x20x2x4x2, .bf16⟩
  | 70 => ⟨S35840x20x2x64, .i32⟩
  | 71 => ⟨S35840x20x2x32, .i32⟩
  | 72 => ⟨S35840x20x2x32, .i32⟩
  | 73 => ⟨S35840x20x2x32, .i32⟩
  | 74 => ⟨S_, .i32⟩
  | 75 => ⟨S35840x20x2x32, .i32⟩
  | 76 => ⟨S35840x20x2x32, .i32⟩
  | 77 => ⟨S_, .i32⟩
  | 78 => ⟨S35840x20x2x32, .i32⟩
  | 79 => ⟨S35840x20x2x32, .i32⟩
  | 80 => ⟨S_, .i32⟩
  | 81 => ⟨S35840x20x2x32, .i32⟩
  | 82 => ⟨S35840x20x2x32, .i32⟩
  | 83 => ⟨S35840x20x2x32, .i32⟩
  | 84 => ⟨S_, .i32⟩
  | 85 => ⟨S35840x20x2x32, .i32⟩
  | 86 => ⟨S35840x20x2x32, .i32⟩
  | 87 => ⟨S_, .i32⟩
  | 88 => ⟨S35840x20x2x32, .i32⟩
  | 89 => ⟨S35840x20x2x32, .i32⟩
  | 90 => ⟨S_, .i32⟩
  | 91 => ⟨S35840x20x2x32, .i32⟩
  | 92 => ⟨S35840x20x2x32, .i32⟩
  | 93 => ⟨S_, .i32⟩
  | 94 => ⟨S35840x20x2x32, .i32⟩
  | 95 => ⟨S35840x20x2x32, .i32⟩
  | 96 => ⟨S35840x20x2x32, .i32⟩
  | 97 => ⟨S_, .i32⟩
  | 98 => ⟨S35840x20x2x32, .i32⟩
  | 99 => ⟨S35840x20x2x32, .i32⟩
  | 100 => ⟨S_, .i32⟩
  | 101 => ⟨S35840x20x2x32, .i32⟩
  | 102 => ⟨S35840x20x2x32, .i32⟩
  | 103 => ⟨S_, .i32⟩
  | 104 => ⟨S35840x20x2x32, .i32⟩
  | 105 => ⟨S35840x20x2x32, .i32⟩
  | 106 => ⟨S_, .i32⟩
  | 107 => ⟨S35840x20x2x32, .i32⟩
  | 108 => ⟨S35840x20x2x32, .i32⟩
  | 109 => ⟨S35840x20x2x32, .i32⟩
  | 110 => ⟨S_, .i32⟩
  | 111 => ⟨S35840x20x2x32, .i32⟩
  | 112 => ⟨S35840x20x2x32, .i32⟩
  | 113 => ⟨S_, .i32⟩
  | 114 => ⟨S35840x20x2x32, .i32⟩
  | 115 => ⟨S35840x20x2x32, .i32⟩
  | 116 => ⟨S_, .i32⟩
  | 117 => ⟨S35840x20x2x32, .i32⟩
  | 118 => ⟨S35840x20x2x32, .i32⟩
  | 119 => ⟨S_, .i32⟩
  | 120 => ⟨S35840x20x2x32, .i32⟩
  | 121 => ⟨S35840x20x2x32, .i32⟩
  | 122 => ⟨S35840x20x2x32, .i32⟩
  | 123 => ⟨S32x1x20x2x4x2x16, .bf16⟩
  | 124 => ⟨S32x1x20x2x1x2x16, .bf16⟩
  | 125 => ⟨S32x1x20x2x2x16, .bf16⟩
  | 126 => ⟨S35840x20x2x1x2, .bf16⟩
  | 127 => ⟨S35840x20x2x2, .bf16⟩
  | _ => ⟨S32x1x5120, .bf16⟩

abbrev hbmTy0_1 (i : Nat) : BufTy := match i % 128 with
  | 0 => ⟨S35840x20x2x32, .f32⟩
  | 1 => ⟨S35840x20x2x32, .bf16⟩
  | 2 => ⟨S_, .bf16⟩
  | 3 => ⟨S35840x20x2x32, .bf16⟩
  | 4 => ⟨S35840x20x2x32, .bf16⟩
  | 5 => ⟨S35840x20x2x2x16, .bf16⟩
  | 6 => ⟨S35840x20x2x2x1, .bf16⟩
  | 7 => ⟨S35840x20x2x2x16, .bf16⟩
  | 8 => ⟨S35840x20x2x2x16, .bf16⟩
  | 9 => ⟨S32x1x35840, .f32⟩
  | 10 => ⟨S32x1x20x2x1x2x16, .bf16⟩
  | 11 => ⟨S32x1x20x2x2x16, .bf16⟩
  | 12 => ⟨S35840x20x2x1x2, .bf16⟩
  | 13 => ⟨S35840x20x2x2, .bf16⟩
  | 14 => ⟨S35840x20x2x32, .f32⟩
  | 15 => ⟨S35840x20x2x32, .bf16⟩
  | 16 => ⟨S_, .bf16⟩
  | 17 => ⟨S35840x20x2x32, .bf16⟩
  | 18 => ⟨S35840x20x2x32, .bf16⟩
  | 19 => ⟨S35840x20x2x2x16, .bf16⟩
  | 20 => ⟨S35840x20x2x2x1, .bf16⟩
  | 21 => ⟨S35840x20x2x2x16, .bf16⟩
  | 22 => ⟨S35840x20x2x2x16, .bf16⟩
  | 23 => ⟨S32x1x35840, .f32⟩
  | 24 => ⟨S32x1x35840, .f32⟩
  | 25 => ⟨S32x1x20x2x1x2x16, .bf16⟩
  | 26 => ⟨S32x1x20x2x2x16, .bf16⟩
  | 27 => ⟨S35840x20x2x1x2, .bf16⟩
  | 28 => ⟨S35840x20x2x2, .bf16⟩
  | 29 => ⟨S35840x20x2x32, .f32⟩
  | 30 => ⟨S35840x20x2x32, .bf16⟩
  | 31 => ⟨S_, .bf16⟩
  | 32 => ⟨S35840x20x2x32, .bf16⟩
  | 33 => ⟨S35840x20x2x32, .bf16⟩
  | 34 => ⟨S35840x20x2x2x16, .bf16⟩
  | 35 => ⟨S35840x20x2x2x1, .bf16⟩
  | 36 => ⟨S35840x20x2x2x16, .bf16⟩
  | 37 => ⟨S35840x20x2x2x16, .bf16⟩
  | 38 => ⟨S32x1x35840, .f32⟩
  | 39 => ⟨S32x1x35840, .f32⟩
  | 40 => ⟨S32x1x20x2x1x2x16, .bf16⟩
  | 41 => ⟨S32x1x20x2x2x16, .bf16⟩
  | 42 => ⟨S35840x20x2x1x2, .bf16⟩
  | 43 => ⟨S35840x20x2x2, .bf16⟩
  | 44 => ⟨S35840x20x2x32, .f32⟩
  | 45 => ⟨S35840x20x2x32, .bf16⟩
  | 46 => ⟨S_, .bf16⟩
  | 47 => ⟨S35840x20x2x32, .bf16⟩
  | 48 => ⟨S35840x20x2x32, .bf16⟩
  | 49 => ⟨S35840x20x2x2x16, .bf16⟩
  | 50 => ⟨S35840x20x2x2x1, .bf16⟩
  | 51 => ⟨S35840x20x2x2x16, .bf16⟩
  | 52 => ⟨S35840x20x2x2x16, .bf16⟩
  | 53 => ⟨S32x1x35840, .f32⟩
  | 54 => ⟨S32x1x35840, .f32⟩
  | 55 => ⟨S32x1x35840, .bf16⟩
  | 56 => ⟨S32x35840, .bf16⟩
  | _ => ⟨S32x1x5120, .bf16⟩

abbrev hbmTy (i : Nat) : BufTy := match i / 128 with
  | 0 => hbmTy0_0 i
  | 1 => hbmTy0_1 i
  | _ => ⟨S32x1x5120, .bf16⟩

abbrev bufTy : (tb : Table) → Fin (tcTables nBuf tb) → BufTy
  | .hbm, ⟨i, _⟩ => hbmTy i
  | _, _ => ⟨S32x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_7 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call0_v0 : Ref sig .tc := ⟨.hbm, 45, rfl⟩
abbrev main_call0_v1 : Ref sig .tc := ⟨.hbm, 46, rfl⟩
abbrev main_v28 : Ref sig .tc := ⟨.hbm, 47, rfl⟩
abbrev main_v29 : Ref sig .tc := ⟨.hbm, 48, rfl⟩
abbrev main_c_10 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_c_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_c_16 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_17 : Ref sig .tc := ⟨.hbm, 84, rfl⟩
abbrev main_v56 : Ref sig .tc := ⟨.hbm, 85, rfl⟩
abbrev main_v57 : Ref sig .tc := ⟨.hbm, 86, rfl⟩
abbrev main_c_18 : Ref sig .tc := ⟨.hbm, 87, rfl⟩
abbrev main_v58 : Ref sig .tc := ⟨.hbm, 88, rfl⟩
abbrev main_v59 : Ref sig .tc := ⟨.hbm, 89, rfl⟩
abbrev main_c_19 : Ref sig .tc := ⟨.hbm, 90, rfl⟩
abbrev main_v60 : Ref sig .tc := ⟨.hbm, 91, rfl⟩
abbrev main_v61 : Ref sig .tc := ⟨.hbm, 92, rfl⟩
abbrev main_c_20 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_21 : Ref sig .tc := ⟨.hbm, 97, rfl⟩
abbrev main_v65 : Ref sig .tc := ⟨.hbm, 98, rfl⟩
abbrev main_v66 : Ref sig .tc := ⟨.hbm, 99, rfl⟩
abbrev main_c_22 : Ref sig .tc := ⟨.hbm, 100, rfl⟩
abbrev main_v67 : Ref sig .tc := ⟨.hbm, 101, rfl⟩
abbrev main_v68 : Ref sig .tc := ⟨.hbm, 102, rfl⟩
abbrev main_c_23 : Ref sig .tc := ⟨.hbm, 103, rfl⟩
abbrev main_v69 : Ref sig .tc := ⟨.hbm, 104, rfl⟩
abbrev main_v70 : Ref sig .tc := ⟨.hbm, 105, rfl⟩
abbrev main_c_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_25 : Ref sig .tc := ⟨.hbm, 110, rfl⟩
abbrev main_v74 : Ref sig .tc := ⟨.hbm, 111, rfl⟩
abbrev main_v75 : Ref sig .tc := ⟨.hbm, 112, rfl⟩
abbrev main_c_26 : Ref sig .tc := ⟨.hbm, 113, rfl⟩
abbrev main_v76 : Ref sig .tc := ⟨.hbm, 114, rfl⟩
abbrev main_v77 : Ref sig .tc := ⟨.hbm, 115, rfl⟩
abbrev main_c_27 : Ref sig .tc := ⟨.hbm, 116, rfl⟩
abbrev main_v78 : Ref sig .tc := ⟨.hbm, 117, rfl⟩
abbrev main_v79 : Ref sig .tc := ⟨.hbm, 118, rfl⟩
abbrev main_c_28 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_29 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_30 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_31 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_32 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩

abbrev nD : Nat := 1
abbrev τ : Topo := Topo.v7x

variable {F : FTy → Type} [FloatOps F]
-- ==== Proof.Trip.lean ====
/- One trip of the kernel's loop over column chunks, as one stored piece. -/
module
public import proofs.«01_k».proof.Proof.Gen.KernelIdeal.Frame
@[expose] public section

set_option maxRecDepth 8192

noncomputable section

namespace Cert.KernelIdeal.Trip
open Idealize.ShloMosaic Idealize.ShloMosaic.TcCoe Cert.KernelIdeal Cert.KernelIdeal.Gen
open Idealize.SL Idealize.SL.Sem

variable {F : FTy → Type} [FloatOps F]

/-- The 32-bit words of a tile of bytes: four consecutive rows to a word. -/
def words (x : Vec F S32x128 .i8) : IVec S8x128 32 :=
  bitcast S8x128 32 (shapeCast S32x128 x shapeCasts_S32x128_S32x128) bitcasts_S32x128_w8_S8x128_w32

/-- A tile of words shifted right by four bits. -/
def down4 (w : IVec S8x128 32) : IVec S8x128 32 := shrui w (broadcast S8x128 4#32)

/-- The words' even pairs of bits. -/
def evens (w : IVec S8x128 32) : IVec S8x128 32 := andi w (broadcast S8x128 858993459#32)

/-- The words' odd pairs of bits, moved to the even places. -/
def odds (w : IVec S8x128 32) : IVec S8x128 32 :=
  andi (shrui w (broadcast S8x128 2#32)) (broadcast S8x128 858993459#32)

/-- The codes of a tile: each byte's low four bits from `low`, the four above them from `top`'s byte plus fourteen. -/
def codes (low top : IVec S8x128 32) : FVec F S32x128 .bf16 :=
  sitofp .bf16 (ori (andi (bitcast S32x128 8 low bitcasts_S8x128_w32_S32x128_w8) (broadcast S32x128 15#8))
    (shli (bitcast S32x128 8 (addi top (broadcast S8x128 235802126#32)) bitcasts_S8x128_w32_S32x128_w8)
      (broadcast S32x128 4#8)))

/-- A row of scales over sixteen rows, at the products' format. -/
def spread (e : Vec F S1x128 .f32) : FVec F S16x128 .bf16 :=
  truncf .bf16 (broadcastTo S16x128 (shapeCast S1x128 e shapeCasts_S1x128_S1x128) broadcasts_S1x128_S16x128)
    bitsLt_bf16_f32

/-- The low halves of the four fields of a half block. -/
def lowOf (a b : Vec F S32x128 .i8) : Fin 4 → IVec S8x128 32 :=
  ![words a, words b, down4 (words a), down4 (words b)]

/-- The high parts of the four fields of a half block. -/
def topOf (w : Vec F S32x128 .i8) : Fin 4 → IVec S8x128 32 :=
  ![evens (words w), odds (words w), down4 (evens (words w)), down4 (odds (words w))]

/-- The sixteen rows `p` of a tile of weights: half `p / 8`, field `p / 2 mod 4`, and there the sixteen rows `p mod 2`. -/
def piece (q : Fin 4 → Vec F S32x128 .i8) (w : Fin 2 → Vec F S32x128 .i8) (e : Fin 16 → Vec F S1x128 .f32)
    (p : Fin 16) : FVec F S16x128 .bf16 :=
  let c : FVec F S32x128 .bf16 := codes (F := F)
    (lowOf (q (Fin.ofNat 4 (p.val / 8 * 2))) (q (Fin.ofNat 4 (p.val / 8 * 2 + 1))) (Fin.ofNat 4 (p.val / 2)))
    (topOf (w (Fin.ofNat 2 (p.val / 8))) (Fin.ofNat 4 (p.val / 2)))
  mulf (if p.val % 2 = 0 then extractStridedSlice S16x128 ![0, 0] c slices_S32x128_o0_0_S16x128
    else extractStridedSlice S16x128 ![16, 0] c slices_S32x128_o16_0_S16x128) (spread (e p))

/-- Sixteen pieces one under another. -/
def stack (P : Fin 16 → FVec F S16x128 .bf16) : FVec F S256x128 .bf16 :=
  concatenate S256x128 0 [⟨S16x128, P 0⟩, ⟨S16x128, P 1⟩, ⟨S16x128, P 2⟩, ⟨S16x128, P 3⟩, ⟨S16x128, P 4⟩,
    ⟨S16x128, P 5⟩, ⟨S16x128, P 6⟩, ⟨S16x128, P 7⟩, ⟨S16x128, P 8⟩, ⟨S16x128, P 9⟩, ⟨S16x128, P 10⟩, ⟨S16x128, P 11⟩,
    ⟨S16x128, P 12⟩, ⟨S16x128, P 13⟩, ⟨S16x128, P 14⟩, ⟨S16x128, P 15⟩]
    concatenates_S16x128_S16x128_S16x128_S16x128_S16x128_S16x128_S16x128_S16x128_S16x128_S16x128_S16x128_S16x128_S16x128_S16x128_S16x128_S16x128_S256x128_d0

/-- The sum with one more super-block's product. -/
def step (a : FVec F S32x256 .f32) (x : Vec F S32x256 .bf16) (c : Fin 2 → FVec F S256x128 .bf16) :
    FVec F S32x256 .f32 :=
  addf a (matmul dot_S32x256_S256x256_S32x256_1_0_0_1_n_n none (shapeCast S32x256 x shapeCasts_S32x256_S32x256)
    (concatenate S256x256 1 [⟨S256x128, c 0⟩, ⟨S256x128, c 1⟩] concatenates_S256x128_S256x128_S256x256_d1)
    (constant S32x256 .f32 0x00000000#32))

/-- The sum over the first `n` super-blocks. -/
def acc (x : Fin 20 → Vec F S32x256 .bf16) (q : Fin 20 → Fin 2 → Fin 4 → Vec F S32x128 .i8)
    (w : Fin 20 → Fin 2 → Fin 2 → Vec F S32x128 .i8) (e : Fin 20 → Fin 2 → Fin 16 → Vec F S1x128 .f32)
    (n : Nat) : FVec F S32x256 .f32 :=
  Nat.rec k0_pay3 (fun n a => step a (x (Fin.ofNat 20 n)) fun t =>
    stack (piece (q (Fin.ofNat 20 n) t) (w (Fin.ofNat 20 n) t) (e (Fin.ofNat 20 n) t))) n

/-- The first column of chunk `k`'s lane tile `t`. -/
def lane (k : Fin k0_t1_loop.trips) (t : Fin 2) : Nat := k0_off1 k (BitVec.ofNat 32 (128 * t.val)) 1

/-- Lane tile `t` of chunk `k` starts at column `256 k + 128 t`. -/
theorem lane_eq : ∀ (k : Fin k0_t1_loop.trips) (t : Fin 2), lane k t = 256 * k.val + 128 * t.val := by
  decide +kernel

/-- The columns of a lane tile are columns of the block. -/
theorem lane_le : ∀ (k : Fin k0_t1_loop.trips) (t : Fin 2), lane k t + 128 ≤ 1024 := by
  decide +kernel

/-- The thirty-two rows of low bytes a piece reads lie in the block. -/
theorem inbQ (k : Fin k0_t1_loop.trips) (n : Fin 20) (t : Fin 2) (u : Fin 4) :
    ∀ a, (![n.val * 128 + u.val * 32, lane k t] : Fin 2 → Nat) a + S32x128.size a ≤ S2560x1024.size a := by
  have h := lane_le k t
  have hn := n.isLt
  have hu := u.isLt
  intro a
  fin_cases a
  · show n.val * 128 + u.val * 32 + 32 ≤ 2560
    omega
  · exact h

/-- The thirty-two rows of high bytes a piece reads lie in the block. -/
theorem inbW (k : Fin k0_t1_loop.trips) (n : Fin 20) (t : Fin 2) (u : Fin 2) :
    ∀ a, (![n.val * 64 + u.val * 32, lane k t] : Fin 2 → Nat) a + S32x128.size a ≤ S1280x1024.size a := by
  have h := lane_le k t
  have hn := n.isLt
  have hu := u.isLt
  intro a
  fin_cases a
  · show n.val * 64 + u.val * 32 + 32 ≤ 1280
    omega
  · exact h

/-- The row of scales a piece reads lies in the scratch array. -/
theorem inbE (k : Fin k0_t1_loop.trips) (n : Fin 20) (t : Fin 2) (p : Fin 16) :
    ∀ a, (![n.val * 16 + p.val, lane k t] : Fin 2 → Nat) a + S1x128.size a ≤ S320x1024.size a := by
  have h := lane_le k t
  have hn := n.isLt
  have hp := p.isLt
  intro a
  fin_cases a
  · show n.val * 16 + p.val + 1 ≤ 320
    omega
  · exact h

/-- The columns of the activations of super-block `n` lie in the block. -/
theorem inbX (n : Fin 20) :
    ∀ a, (![0, n.val * 256] : Fin 2 → Nat) a + S32x256.size a ≤ S32x5120.size a := by
  have hn := n.isLt
  intro a
  fin_cases a
  · show 0 + 32 ≤ 32
    omega
  · show n.val * 256 + 256 ≤ 5120
    omega

/-- The block of activations of super-block `n`. -/
def ldX (arg1 : Memref sig .tc .vmem S32x5120 .bf16) (X : BufTy.Contents (Elt F) arg1.view.ty) (n : Fin 20) :
    Vec F S32x256 .bf16 :=
  View.readAt (Elt F) arg1.view (Rect.unit (s := S32x5120) ![0, n.val * 256] S32x256.size (inbX n)).toLoadRect X

/-- The thirty-two rows `u` of super-block `n`'s low bytes. -/
def ldQ (arg2 : Memref sig .tc .vmem S2560x1024 .i8) (X : BufTy.Contents (Elt F) arg2.view.ty)
    (k : Fin k0_t1_loop.trips) (n : Fin 20) (t : Fin 2) (u : Fin 4) : Vec F S32x128 .i8 :=
  View.readAt (Elt F) arg2.view (Rect.unit (s := S2560x1024) ![n.val * 128 + u.val * 32, lane k t] S32x128.size (inbQ k n t u)).toLoadRect X

/-- The thirty-two rows `u` of super-block `n`'s high bytes. -/
def ldW (arg3 : Memref sig .tc .vmem S1280x1024 .i8) (X : BufTy.Contents (Elt F) arg3.view.ty)
    (k : Fin k0_t1_loop.trips) (n : Fin 20) (t : Fin 2) (u : Fin 2) : Vec F S32x128 .i8 :=
  View.readAt (Elt F) arg3.view (Rect.unit (s := S1280x1024) ![n.val * 64 + u.val * 32, lane k t] S32x128.size (inbW k n t u)).toLoadRect X

/-- The row of scales of super-block `n`'s sixteen rows `p`. -/
def ldE (arg7 : Memref sig .tc .vmem S320x1024 .f32) (X : BufTy.Contents (Elt F) arg7.view.ty)
    (k : Fin k0_t1_loop.trips) (n : Fin 20) (t : Fin 2) (p : Fin 16) : Vec F S1x128 .f32 :=
  View.readAt (Elt F) arg7.view (Rect.unit (s := S320x1024) ![n.val * 16 + p.val, lane k t] S1x128.size (inbE k n t p)).toLoadRect X

set_option maxHeartbeats 2000000 in
/-- One chunk of the loop stores one piece: the rounded sum over the super-blocks of the products of activations and
decoded weights. -/
theorem trip_eq (𝒱 : Variants) (c : Dev nD) (bd : Option 𝒱.V) (i : grid0.Coords) (arg1 : Memref sig .tc .vmem S32x5120 .bf16) (harg1 : arg1.IsWhole) (arg2 : Memref sig .tc .vmem S2560x1024 .i8) (harg2 : arg2.IsWhole) (arg3 : Memref sig .tc .vmem S1280x1024 .i8) (harg3 : arg3.IsWhole) (arg4 : Memref sig .tc .vmem S20x16x1024 .i8) (harg4 : arg4.IsWhole) (arg5 : Memref sig .tc .vmem S20x1024 .i16) (harg5 : arg5.IsWhole) (arg6 : Memref sig .tc .vmem S32x1024 .bf16) (harg6 : arg6.IsWhole) (arg7 : Memref sig .tc .vmem S320x1024 .f32) (harg7 : arg7.IsWhole) (X_arg1 : BufTy.Contents (Elt F) arg1.view.ty) (X_arg2 : BufTy.Contents (Elt F) arg2.view.ty) (X_arg3 : BufTy.Contents (Elt F) arg3.view.ty) (X_arg7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 X_arg1 X_arg2 X_arg3 X_arg7 k
      = [⟨Rect.unit (s := S32x1024) (k0_off441 k) S32x256.size (k0_off441_inb k),
          truncf .bf16 (acc (F := F) (ldX arg1 X_arg1) (ldQ arg2 X_arg2 k) (ldW arg3 X_arg3 k) (ldE arg7 X_arg7 k) 20)
            bitsLt_bf16_f32⟩] := by
  sl_kernel_rfl

end Cert.KernelIdeal.Trip
-- ==== Proof.Byte.lean ====
/- The codes of the weights, byte by byte: a weight's six bits are four of one byte and two of another. The kernel joins them
   in words of four bytes, biased so that the joined byte's signed value is the code less thirty-two; the reference joins
   each pair at thirty-two bits and subtracts thirty-two. -/
module

public import Idealize.ShloMosaic.PureOps.Ideal
public import Mathlib.Tactic.IntervalCases
public import Mathlib.Tactic.NormNum

@[expose] public section

noncomputable section

namespace Cert.Byte

open Idealize.ShloMosaic

/-- The weight of field `f` in the bytes `a` (its low four bits) and `w` (its high two bits): the code less thirty-two. -/
def weight (a w : BitVec 8) (f : Fin 4) : ℤ :=
  ((a.toNat / 16 ^ (f.val / 2) % 16 + 16 * (w.toNat / 4 ^ f.val % 4) : ℕ) : ℤ) - 32

/-- Adding fourteen to each byte of a word whose bytes are at most fifty-one carries nothing from byte to byte. -/
theorem add_bytes (V : BitVec 32) (hb : ∀ e, e < 4 → V.toNat / 256 ^ e % 256 ≤ 51) (e : Nat) (he : e < 4) :
    (V + 235802126#32).toNat / 256 ^ e % 256 = V.toNat / 256 ^ e % 256 + 14 := by
  have h0 := hb 0 (by omega)
  have h1 := hb 1 (by omega)
  have h2 := hb 2 (by omega)
  have h3 := hb 3 (by omega)
  have hV := V.isLt
  rw [BitVec.toNat_add]
  have hc : (235802126#32).toNat = 235802126 := rfl
  rw [hc]
  interval_cases e <;> simp only [Nat.reducePow] at * <;> omega

/-- A byte of a word. -/
theorem byte_toNat (V : BitVec 32) (e : Nat) : (V.extractLsb' (8 * e) 8).toNat = V.toNat / 256 ^ e % 256 := by
  rw [BitVec.extractLsb'_toNat, Nat.shiftRight_eq_div_pow, Nat.pow_mul]

/-- The bytes of a masked word, moved by nothing or by four bits, are at most fifty-one. -/
theorem mask_le (Y : BitVec 32) (g : Nat) (hg : g = 0 ∨ g = 4) (e : Nat) (he : e < 4) :
    ((Y &&& 858993459#32) >>> g).toNat / 256 ^ e % 256 ≤ 51 := by
  rw [← byte_toNat]
  have h : ((Y &&& 858993459#32) >>> g).extractLsb' (8 * e) 8
      = ((Y &&& 858993459#32) >>> g).extractLsb' (8 * e) 8 &&& 51#8 := by
    apply BitVec.eq_of_getLsbD_eq
    intro i hi
    rcases hg with rfl | rfl <;> interval_cases e <;> interval_cases i <;> simp
  rw [h, BitVec.toNat_and]
  exact Nat.and_le_right

/-- The two bits of a field in the masked and moved word. -/
theorem mask_nibble (H : BitVec 32) (s g : Nat) (hs : s = 0 ∨ s = 2) (hg : g = 0 ∨ g = 4) (e : Nat) (he : e < 4) :
    (((H >>> s) &&& 858993459#32) >>> g).toNat / 256 ^ e % 16 = (H.extractLsb' (8 * e) 8).toNat / 2 ^ (s + g) % 4 := by
  have h : (((H >>> s) &&& 858993459#32) >>> g).extractLsb' (8 * e) 4 = (H.extractLsb' (8 * e + (s + g)) 2).setWidth 4 := by
    apply BitVec.eq_of_getLsbD_eq
    intro i hi
    rcases hs with rfl | rfl <;> rcases hg with rfl | rfl <;> interval_cases e <;> interval_cases i <;> simp
  have h' := congrArg BitVec.toNat h
  rw [BitVec.extractLsb'_toNat, BitVec.toNat_setWidth, BitVec.extractLsb'_toNat, Nat.shiftRight_eq_div_pow,
    Nat.shiftRight_eq_div_pow] at h'
  rw [byte_toNat]
  have hH := H.isLt
  generalize (((H >>> s) &&& 858993459#32) >>> g).toNat = V at *
  generalize H.toNat = N at *
  rcases hs with rfl | rfl <;> rcases hg with rfl | rfl <;> interval_cases e <;> simp only [Nat.reducePow, Nat.reduceMul, Nat.reduceAdd] at * <;> omega

/-- The biased high part of a field, at its low four bits. -/
theorem top_nibble (H : BitVec 32) (s g : Nat) (hs : s = 0 ∨ s = 2) (hg : g = 0 ∨ g = 4) (e : Nat) (he : e < 4) :
    (((((H >>> s) &&& 858993459#32) >>> g) + 235802126#32).extractLsb' (8 * e) 8).toNat % 16
      = ((H.extractLsb' (8 * e) 8).toNat / 2 ^ (s + g) % 4 + 14) % 16 := by
  rw [byte_toNat, add_bytes _ (fun e he => mask_le _ g hg e he) e he, ← mask_nibble H s g hs hg e he]
  omega

/-- The low four bits of a byte of a word moved down by nothing or by four bits. -/
theorem low_nibble (L : BitVec 32) (g : Nat) (hg : g = 0 ∨ g = 4) (e : Nat) (he : e < 4) :
    ((L >>> g).extractLsb' (8 * e) 8).toNat % 16 = (L.extractLsb' (8 * e) 8).toNat / 2 ^ g % 16 := by
  rw [byte_toNat, byte_toNat, BitVec.toNat_ushiftRight, Nat.shiftRight_eq_div_pow]
  have hL := L.isLt
  generalize L.toNat = N at *
  rcases hg with rfl | rfl <;> interval_cases e <;> simp only [Nat.reducePow] at * <;> omega

/-- The four low bits of a byte. -/
theorem and15 (a : BitVec 8) : a &&& 15#8 = BitVec.ofNat 8 (a.toNat % 16) := by
  revert a; decide +kernel

/-- A byte moved up by four bits keeps its four low bits. -/
theorem shl4 (t : BitVec 8) : t <<< 4 = BitVec.ofNat 8 (16 * (t.toNat % 16)) := by
  revert t; decide +kernel

/-- The joined byte's signed value. -/
theorem join : ∀ (x : Fin 16) (q : Fin 4),
    (BitVec.ofNat 8 x.val ||| BitVec.ofNat 8 (16 * ((q.val + 14) % 16))).toInt = ((x.val + 16 * q.val : ℕ) : ℤ) - 32 := by
  decide +kernel

/-- The kernel's code of field `f`, byte `e`: its signed value is the weight. -/
theorem kcode_toInt (L H : BitVec 32) (s g : Nat) (f : Fin 4) (hs : s = 2 * (f.val % 2)) (hg : g = 4 * (f.val / 2))
    (e : Nat) (he : e < 4) :
    ((((L >>> g).extractLsb' (8 * e) 8) &&& 15#8) |||
      ((((((H >>> s) &&& 858993459#32) >>> g) + 235802126#32).extractLsb' (8 * e) 8) <<< 4)).toInt
      = weight (L.extractLsb' (8 * e) 8) (H.extractLsb' (8 * e) 8) f := by
  have hf := f.isLt
  have hs' : s = 0 ∨ s = 2 := by omega
  have hg' : g = 0 ∨ g = 4 := by omega
  rw [and15, shl4, top_nibble H s g hs' hg' e he, low_nibble L g hg' e he]
  have := join ⟨(L.extractLsb' (8 * e) 8).toNat / 2 ^ g % 16, Nat.mod_lt _ (by decide)⟩
    ⟨(H.extractLsb' (8 * e) 8).toNat / 2 ^ (s + g) % 4, Nat.mod_lt _ (by decide)⟩
  rw [this]
  unfold weight
  have e1 : 2 ^ g = 16 ^ (f.val / 2) := by rw [hg, Nat.pow_mul]
  have e2 : 2 ^ (s + g) = 4 ^ f.val := by
    rw [show s + g = 2 * f.val by omega, Nat.pow_mul]
  rw [e1, e2]

/-- The reference's code of field `f` at thirty-two bits. -/
def rCode (a w : BitVec 8) (f : Fin 4) : BitVec 32 :=
  IntOp.ori (if f.val < 2 then IntOp.andi (a.setWidth 32) 15#32 else IntOp.shrsi .host (a.setWidth 32) 4#32)
    (IntOp.shli .host (IntOp.andi (if f.val = 0 then w.setWidth 32
      else IntOp.shrsi .host (w.setWidth 32) (BitVec.ofNat 32 (2 * f.val))) 3#32) 4#32)

/-- A byte's low and high four bits, at thirty-two bits. -/
theorem rlow : ∀ a : BitVec 8, (IntOp.andi (a.setWidth 32) 15#32 = BitVec.ofNat 32 (a.toNat % 16))
    ∧ IntOp.shrsi .host (a.setWidth 32) 4#32 = BitVec.ofNat 32 (a.toNat / 16 % 16) := by
  decide +kernel

/-- Bit pair `f` of a byte, at thirty-two bits. -/
theorem rtop : ∀ (w : BitVec 8) (f : Fin 4), IntOp.andi (if f.val = 0 then w.setWidth 32
      else IntOp.shrsi .host (w.setWidth 32) (BitVec.ofNat 32 (2 * f.val))) 3#32 = BitVec.ofNat 32 (w.toNat / 4 ^ f.val % 4) := by
  decide +kernel

/-- The joined code's value. -/
theorem rjoin : ∀ (x : Fin 16) (q : Fin 4),
    (IntOp.ori (BitVec.ofNat 32 x.val) (IntOp.shli .host (BitVec.ofNat 32 q.val) 4#32)).toInt = ((x.val + 16 * q.val : ℕ) : ℤ) := by
  decide +kernel

/-- The reference's code is the weight and thirty-two. -/
theorem rCode_toInt (a w : BitVec 8) (f : Fin 4) : (rCode a w f).toInt = weight a w f + 32 := by
  have hl : (if f.val < 2 then IntOp.andi (a.setWidth 32) 15#32 else IntOp.shrsi .host (a.setWidth 32) 4#32)
      = BitVec.ofNat 32 (a.toNat / 16 ^ (f.val / 2) % 16) := by
    have hf := f.isLt
    by_cases h : f.val < 2
    · rw [if_pos h, (rlow a).1, show f.val / 2 = 0 by omega, Nat.pow_zero, Nat.div_one]
    · rw [if_neg h, (rlow a).2, show f.val / 2 = 1 by omega, Nat.pow_one]
  unfold rCode weight
  rw [hl, rtop]
  have := rjoin ⟨a.toNat / 16 ^ (f.val / 2) % 16, Nat.mod_lt _ (by decide)⟩ ⟨w.toNat / 4 ^ f.val % 4, Nat.mod_lt _ (by decide)⟩
  rw [this]
  dsimp only
  omega

/-- The reference's weight: its code, less thirty-two. -/
theorem rweight (a w : BitVec 8) (f : Fin 4) :
    FloatOps.subf (F := Ideal) (φ := .bf16) (FloatOps.truncf .bf16 (by decide) (FloatOps.sitofp (F := Ideal) .f32 (rCode a w f)))
      (FloatOps.ofBits .bf16 0x4200#16) = ((((weight a w f : ℤ) : ℝ) : EReal) : Ideal .bf16) := by
  have h32 : (FloatOps.ofBits .bf16 0x4200#16 : Ideal .bf16) = (((32 : ℝ) : EReal)) := by
    show Ideal.ieee 8 7 (0x4200#16) = _
    simp [Ideal.ieee]
    rw [← EReal.coe_mul]
    norm_num
  rw [h32]
  show ((((rCode a w f).toInt : ℝ) : EReal)) - ((32 : ℝ) : EReal) = _
  rw [← EReal.coe_sub, rCode_toInt, Int.cast_add, Int.cast_ofNat, add_sub_cancel_right]

end Cert.Byte
-- ==== Proof.Codes.lean ====
/- The kernel's tiles of weights at an index. -/
module

public import proofs.«01_k».proof.Proof.Trip
public import proofs.«01_k».proof.Proof.Byte
public import Idealize.ShloMosaic.Lib.BitcastFour
public import Idealize.ShloMosaic.Lib.Pointwise
public import Idealize.ShloMosaic.Lib.Pipeline.Value
public import Idealize.ShloMosaic.Lib.Pipeline.ValueKit.Acc

@[expose] public section

noncomputable section

namespace Cert.KernelIdeal.Trip
open Idealize.ShloMosaic Cert.KernelIdeal Cert.KernelIdeal.Gen Cert.Byte

/-- A byte of a word tile read as bytes. -/
theorem unword_apply (v : IVec S8x128 32) (h : S8x128.Bitcasts 32 S32x128 8) (r : Fin 32) (l : Fin 128) :
    bitcast S32x128 8 v h (ix2 r l) = (v (ix2 ⟨r.val / 4, by have := r.isLt; omega⟩ l)).extractLsb' (8 * (r.val % 4)) 8 := by
  apply BitVec.eq_of_getLsbD_eq
  intro i hi
  have hrow : S32x128.row (ix2 r l) = r.val := rfl
  rw [bitcast_getLsbD v h _ i hi (by decide), BitVec.getLsbD_extractLsb']
  have e2 : (S32x128.row (ix2 r l) * 8 + i) % 32 = 8 * (r.val % 4) + i := by rw [hrow]; omega
  have e1 : (S32x128.row (ix2 r l) * 8 + i) / 32 = r.val / 4 := by rw [hrow]; omega
  rw [e2, h.srcIdx_congr _ e1 _ (fun a ha => by have := h.pos_lt (ix2 r l) i hi a ha; omega)]
  rw [decide_eq_true hi, Bool.true_and]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

/-- A byte of a tile's words is the tile's. -/
theorem words_byte {F : FTy → Type} [FloatOps F] (x : Vec F S32x128 .i8) (r : Fin 32) (l : Fin 128) :
    (words (F := F) x (ix2 ⟨r.val / 4, by have := r.isLt; omega⟩ l)).extractLsb' (8 * (r.val % 4)) 8 = x (ix2 r l) := by
  apply BitVec.eq_of_getLsbD_eq
  intro i hi
  rw [BitVec.getLsbD_extractLsb', decide_eq_true hi, Bool.true_and]
  unfold words
  have hc : shapeCast S32x128 x shapeCasts_S32x128_S32x128 = x := by
    funext j
    pointwise
  rw [hc]
  have := bitcast_8_32_getLsbD_ix2 x bitcasts_S32x128_w8_S8x128_w32 ⟨r.val / 4, by have := r.isLt; omega⟩ l
    (8 * (r.val % 4) + i) (by omega) r (by show r.val = 4 * (r.val / 4) + _; omega)
  refine this.trans ?_
  have e : (8 * (r.val % 4) + i) % 8 = i := by omega
  rw [e]
  rfl

/-- The code of field `f` at row `r`, lane `l` of a tile: the weight in the tile's two bytes there. -/
theorem codes_apply (a b w : Vec Ideal S32x128 .i8) (f : Fin 4) (r : Fin 32) (l : Fin 128) :
    codes (F := Ideal) (lowOf (F := Ideal) a b f) (topOf (F := Ideal) w f) (ix2 r l)
      = (((weight ((if f.val % 2 = 0 then a else b) (ix2 r l)) (w (ix2 r l)) f : ℤ) : ℝ) : EReal) := by
  have he : r.val % 4 < 4 := Nat.mod_lt _ (by decide)
  have hK := kcode_toInt
    (words (F := Ideal) (if f.val % 2 = 0 then a else b) (ix2 ⟨r.val / 4, by have := r.isLt; omega⟩ l))
    (words (F := Ideal) w (ix2 ⟨r.val / 4, by have := r.isLt; omega⟩ l)) (2 * (f.val % 2)) (4 * (f.val / 2)) f rfl rfl (r.val % 4) he
  rw [words_byte, words_byte] at hK
  rw [← hK]
  show ((((IntOp.ori (IntOp.andi (bitcast S32x128 8 (lowOf (F := Ideal) a b f) bitcasts_S8x128_w32_S32x128_w8 (ix2 r l)) 15#8)
    (IntOp.shli .vector (bitcast S32x128 8 (addi (topOf (F := Ideal) w f) (broadcast S8x128 235802126#32)) bitcasts_S8x128_w32_S32x128_w8 (ix2 r l)) 4#8)).toInt : ℤ) : ℝ) : EReal) = _
  rw [unword_apply, unword_apply]
  congr 3
  fin_cases f <;> rfl

/-- Sixteen pieces under one another, read in piece `p`. -/
theorem stack_apply {F : FTy → Type} [FloatOps F] (P : Fin 16 → FVec F S16x128 .bf16) (p : Fin 16) (i : Fin 16) (l : Fin 128) :
    stack P (ix2 ⟨p.val * 16 + i.val, by have := p.isLt; have := i.isLt; omega⟩ l) = P p (ix2 i l) := by
  have hi := i.isLt
  exact concatenate_ofFn_apply (t := S256x128) (s₁ := S16x128) 0 P
    concatenates_S16x128_S16x128_S16x128_S16x128_S16x128_S16x128_S16x128_S16x128_S16x128_S16x128_S16x128_S16x128_S16x128_S16x128_S16x128_S16x128_S256x128_d0
    rfl 16 rfl (ix2 ⟨p.val * 16 + i.val, by have := p.isLt; have := i.isLt; omega⟩ l) p
    (by show (p.val * 16 + i.val) / 16 = p.val; omega) (ix2 i l)
    (by show i.val = (p.val * 16 + i.val) % 16; omega)
    (fun b hb => by
      match b with
      | ⟨0, _⟩ => exact absurd rfl hb
      | ⟨1, _⟩ => rfl)

/-- A row of scales spread over sixteen rows. -/
theorem spread_apply (e : Vec Ideal S1x128 .f32) (i : Fin 16) (l : Fin 128) :
    spread (F := Ideal) e (ix2 i l) = e (ix2 0 l) := by
  pointwise [spread]

/-- A piece at an index: the weight there times its scale. -/
theorem piece_apply (q : Fin 4 → Vec Ideal S32x128 .i8) (w : Fin 2 → Vec Ideal S32x128 .i8)
    (e : Fin 16 → Vec Ideal S1x128 .f32) (p : Fin 16) (i : Fin 16) (l : Fin 128) :
    piece (F := Ideal) q w e p (ix2 i l)
      = (((weight (q (Fin.ofNat 4 (p.val / 8 * 2 + p.val / 2 % 2)) (ix2 ⟨p.val % 2 * 16 + i.val, by have := i.isLt; omega⟩ l))
          (w (Fin.ofNat 2 (p.val / 8)) (ix2 ⟨p.val % 2 * 16 + i.val, by have := i.isLt; omega⟩ l)) (Fin.ofNat 4 (p.val / 2)) : ℤ) : ℝ) : EReal)
        * e p (ix2 0 l) := by
  unfold piece
  rw [mulf_apply, spread_apply]
  show (_ : EReal) * _ = _
  congr 1
  have hp := p.isLt
  have hx : (if p.val % 2 = 0 then extractStridedSlice S16x128 ![0, 0] (codes (F := Ideal)
        (lowOf (F := Ideal) (q (Fin.ofNat 4 (p.val / 8 * 2))) (q (Fin.ofNat 4 (p.val / 8 * 2 + 1))) (Fin.ofNat 4 (p.val / 2)))
        (topOf (F := Ideal) (w (Fin.ofNat 2 (p.val / 8))) (Fin.ofNat 4 (p.val / 2)))) slices_S32x128_o0_0_S16x128
      else extractStridedSlice S16x128 ![16, 0] (codes (F := Ideal)
        (lowOf (F := Ideal) (q (Fin.ofNat 4 (p.val / 8 * 2))) (q (Fin.ofNat 4 (p.val / 8 * 2 + 1))) (Fin.ofNat 4 (p.val / 2)))
        (topOf (F := Ideal) (w (Fin.ofNat 2 (p.val / 8))) (Fin.ofNat 4 (p.val / 2)))) slices_S32x128_o16_0_S16x128) (ix2 i l)
      = codes (F := Ideal)
        (lowOf (F := Ideal) (q (Fin.ofNat 4 (p.val / 8 * 2))) (q (Fin.ofNat 4 (p.val / 8 * 2 + 1))) (Fin.ofNat 4 (p.val / 2)))
        (topOf (F := Ideal) (w (Fin.ofNat 2 (p.val / 8))) (Fin.ofNat 4 (p.val / 2)))
        (ix2 ⟨p.val % 2 * 16 + i.val, by have := i.isLt; omega⟩ l) := by
    generalize codes (F := Ideal) _ _ = c
    by_cases h : p.val % 2 = 0
    · rw [if_pos h]
      pointwise
      simp [h]
    · rw [if_neg h]
      pointwise
      simp [show p.val % 2 = 1 by omega, Nat.add_comm]
  rw [hx, codes_apply]
  have hsel : (if (Fin.ofNat 4 (p.val / 2)).val % 2 = 0 then q (Fin.ofNat 4 (p.val / 8 * 2)) else q (Fin.ofNat 4 (p.val / 8 * 2 + 1)))
      = q (Fin.ofNat 4 (p.val / 8 * 2 + p.val / 2 % 2)) := by
    have e1 : (Fin.ofNat 4 (p.val / 2)).val % 2 = p.val / 2 % 2 := by show p.val / 2 % 4 % 2 = _; omega
    rw [e1]
    by_cases h : p.val / 2 % 2 = 0
    · rw [if_pos h, h, Nat.add_zero]
    · rw [if_neg h, show p.val / 2 % 2 = 1 by omega]
  rw [hsel]

/-- One super-block's product at an index. -/
theorem step_apply (a : FVec Ideal S32x256 .f32) (x : Vec Ideal S32x256 .bf16) (c : Fin 2 → FVec Ideal S256x128 .bf16)
    (b : Fin 32) (t : Fin 2) (l : Fin 128) :
    step (F := Ideal) a x c (ix2 b ⟨t.val * 128 + l.val, by have := t.isLt; have := l.isLt; omega⟩)
      = (a (ix2 b ⟨t.val * 128 + l.val, by have := t.isLt; have := l.isLt; omega⟩)
        + ∑ r : Fin 256, x (ix2 b r) * c t (ix2 r l) : EReal) := by
  have hl := l.isLt
  pointwise [step]
  congr 1
  refine Finset.sum_congr rfl fun r _ => ?_
  congr 1
  obtain ⟨tv, ht⟩ := t
  obtain rfl | rfl : tv = 0 ∨ tv = 1 := by omega
  · rw [dif_pos (by show 0 * 128 + l.val < 128; omega)]
    exact congrArg (fun k => c 0 (ix2 r k)) (Fin.ext (by show 0 * 128 + l.val = l.val; omega))
  · rw [dif_neg (by show ¬ 1 * 128 + l.val < 128; omega)]
    exact congrArg (fun k => c 1 (ix2 r k)) (Fin.ext (by show 1 * 128 + l.val - 128 = l.val; omega))

/-- The rows of a super-block are sixteen rows of sixteen pieces. -/
theorem sum_rows {M : Type} [AddCommMonoid M] (f : Fin 256 → M) :
    ∑ r : Fin 256, f r = ∑ p : Fin 16, ∑ i : Fin 16, f ⟨p.val * 16 + i.val, by have := p.isLt; have := i.isLt; omega⟩ := by
  have h := Fin.sum_univ_univ_mul_add 16 16 (fun k : ℕ => if h : k < 256 then f ⟨k, h⟩ else 0)
  have e : ∀ p i : Fin 16, (if h : p.val * 16 + i.val < 256 then f ⟨p.val * 16 + i.val, h⟩ else 0)
      = f ⟨p.val * 16 + i.val, by have := p.isLt; have := i.isLt; omega⟩ := fun p i =>
    dif_pos (by have := p.isLt; have := i.isLt; omega)
  simp only [e] at h
  rw [h]
  exact Finset.sum_congr rfl fun r _ => by rw [dif_pos r.isLt]

/-- One term of the kernel's sum: an activation times a weight and its scale. -/
def term (x : Vec Ideal S32x256 .bf16) (q : Fin 4 → Vec Ideal S32x128 .i8) (w : Fin 2 → Vec Ideal S32x128 .i8)
    (e : Fin 16 → Vec Ideal S1x128 .f32) (b : Fin 32) (l : Fin 128) (p i : Fin 16) : EReal :=
  x (ix2 b ⟨p.val * 16 + i.val, by have := p.isLt; have := i.isLt; omega⟩)
    * ((((weight (q (Fin.ofNat 4 (p.val / 8 * 2 + p.val / 2 % 2)) (ix2 ⟨p.val % 2 * 16 + i.val, by have := i.isLt; omega⟩ l))
          (w (Fin.ofNat 2 (p.val / 8)) (ix2 ⟨p.val % 2 * 16 + i.val, by have := i.isLt; omega⟩ l)) (Fin.ofNat 4 (p.val / 2)) : ℤ) : ℝ) : EReal)
        * e p (ix2 0 l))

/-- The sum over the first `m` super-blocks at an index. -/
theorem acc_apply (x : Fin 20 → Vec Ideal S32x256 .bf16) (q : Fin 20 → Fin 2 → Fin 4 → Vec Ideal S32x128 .i8)
    (w : Fin 20 → Fin 2 → Fin 2 → Vec Ideal S32x128 .i8) (e : Fin 20 → Fin 2 → Fin 16 → Vec Ideal S1x128 .f32)
    (b : Fin 32) (t : Fin 2) (l : Fin 128) (m : Nat) :
    acc (F := Ideal) x q w e m (ix2 b ⟨t.val * 128 + l.val, by have := t.isLt; have := l.isLt; omega⟩)
      = (∑ n ∈ Finset.range m, ∑ p : Fin 16, ∑ i : Fin 16, term (x (Fin.ofNat 20 n)) (q (Fin.ofNat 20 n) t)
          (w (Fin.ofNat 20 n) t) (e (Fin.ofNat 20 n) t) b l p i : EReal) := by
  induction m with
  | zero =>
    rw [Finset.sum_range_zero]
    show Ideal.ofBits .f32 0x00000000#32 = 0
    exact Ideal.ofBits_zero_f32
  | succ m ih =>
    rw [Finset.sum_range_succ, ← ih]
    refine (step_apply (acc (F := Ideal) x q w e m) (x (Fin.ofNat 20 m)) (fun t => stack (piece (F := Ideal)
      (q (Fin.ofNat 20 m) t) (w (Fin.ofNat 20 m) t) (e (Fin.ofNat 20 m) t))) b t l).trans ?_
    congr 1
    rw [sum_rows]
    refine Finset.sum_congr rfl fun p _ => Finset.sum_congr rfl fun i _ => ?_
    rw [stack_apply, piece_apply]
    rfl

/-- All twenty super-blocks. -/
theorem acc_all (x : Fin 20 → Vec Ideal S32x256 .bf16) (q : Fin 20 → Fin 2 → Fin 4 → Vec Ideal S32x128 .i8)
    (w : Fin 20 → Fin 2 → Fin 2 → Vec Ideal S32x128 .i8) (e : Fin 20 → Fin 2 → Fin 16 → Vec Ideal S1x128 .f32)
    (b : Fin 32) (t : Fin 2) (l : Fin 128) :
    acc (F := Ideal) x q w e 20 (ix2 b ⟨t.val * 128 + l.val, by have := t.isLt; have := l.isLt; omega⟩)
      = (∑ n : Fin 20, ∑ p : Fin 16, ∑ i : Fin 16, term (x n) (q n t) (w n t) (e n t) b l p i : EReal) := by
  rw [acc_apply, Finset.sum_range]
  refine Finset.sum_congr rfl fun n _ => ?_
  have hn : Fin.ofNat 20 n.val = n := Fin.ext (Nat.mod_eq_of_lt n.isLt)
  rw [hn]

end Cert.KernelIdeal.Trip
-- ==== Proof.Rows.lean ====
/- The kernel's pieces: the rows of scales it stores, and the chunks of its result. -/
module

public import proofs.«01_k».proof.Proof.Codes
public import Idealize.ShloMosaic.Lib.WritesUnit

@[expose] public section

set_option maxRecDepth 8192

noncomputable section

namespace Cert.KernelIdeal.Trip
open Idealize.ShloMosaic Idealize.ShloMosaic.TcCoe Cert.KernelIdeal Cert.KernelIdeal.Gen
open Idealize.SL Idealize.SL.Sem

variable {F : FTy → Type} [FloatOps F]

/-- Row `n` of the halves is a slice of them. -/
theorem slicesD : ∀ n : Fin 20, S20x1024.Slices ![n.val, 0] S1x1024 := by decide +kernel

/-- Super-block `n`'s scales lie in the block. -/
theorem inbS : ∀ (n : Fin 20) (a : Fin 3), (![n.val, 0, 0] : Fin 3 → Nat) a + S1x16x1024.size a ≤ S20x16x1024.size a := by
  decide +kernel

/-- Super-block `n`'s sixteen rows lie in the scratch array. -/
theorem inbR : ∀ (n : Fin 20) (a : Fin 2), (![n.val * 16, 0] : Fin 2 → Nat) a + S16x1024.size a ≤ S320x1024.size a := by
  decide +kernel

/-- The sixteen rows of scales of super-block `n`: its sixteen integers times its half. -/
def rowPiece (d : FVec F S20x1024 .f32) (n : Fin 20) (v : Vec F S1x16x1024 .i8) : FVec F S16x1024 .f32 :=
  shapeCast S16x1024 (extf .f32 (truncf .bf16 (mulf (sitofp .f32 (shapeCast S16x1024 v shapeCasts_S1x16x1024_S16x1024))
    (broadcastTo S16x1024 (extractStridedSlice S1x1024 ![n.val, 0] d (slicesD n)) broadcasts_S1x1024_S16x1024))
    bitsLt_bf16_f32) bitsLt_bf16_f32) shapeCasts_S16x1024_S16x1024

/-- The pieces of scales, super-block by super-block. -/
def rows (arg4 : Memref sig .tc .vmem S20x16x1024 .i8) (X4 : BufTy.Contents (Elt F) arg4.view.ty)
    (arg5 : Memref sig .tc .vmem S20x1024 .i16) (X5 : BufTy.Contents (Elt F) arg5.view.ty) :
    List (View.Piece (Elt F) S320x1024 .f32) :=
  View.tilePieces (s := S320x1024) S16x1024.size (fun n : Fin 20 => ![n.val * 16, 0]) inbR
    (fun n => rowPiece (k0_pay1771 (View.readAt (Elt F) arg5.view
        (Rect.unit (s := S20x1024) ![0, 0] S20x1024.size inb_S20x1024_S20x1024_0_0).toLoadRect X5)) n
      (View.readAt (Elt F) arg4.view (Rect.unit (s := S20x16x1024) ![n.val, 0, 0] S1x16x1024.size (inbS n)).toLoadRect X4))
    20 le_rfl

/-- The body's pieces of the result: the loop's, over the rows of scales. -/
theorem run_eq (c : Dev nD) (i : grid0.Coords) (arg1 : Memref sig .tc .vmem S32x5120 .bf16) (harg1 : arg1.IsWhole) (arg2 : Memref sig .tc .vmem S2560x1024 .i8) (harg2 : arg2.IsWhole) (arg3 : Memref sig .tc .vmem S1280x1024 .i8) (harg3 : arg3.IsWhole) (arg4 : Memref sig .tc .vmem S20x16x1024 .i8) (harg4 : arg4.IsWhole) (arg5 : Memref sig .tc .vmem S20x1024 .i16) (harg5 : arg5.IsWhole) (arg6 : Memref sig .tc .vmem S32x1024 .bf16) (harg6 : arg6.IsWhole) (arg7 : Memref sig .tc .vmem S320x1024 .f32) (harg7 : arg7.IsWhole)
    (x0 : Vec F S32x5120 .bf16) (x1 : Vec F S2560x1024 .i8) (x2 : Vec F S1280x1024 .i8) (x3 : Vec F S20x16x1024 .i8) (x4 : Vec F S20x1024 .i16) :
    (kernelRun0_A c i arg1 harg1 arg2 harg2 arg3 harg3 arg4 harg4 arg5 harg5 arg6 harg6 arg7 harg7 x0 x1 x2 x3 x4).1
      = pb_k0_t1 Variants.none c none i arg1 harg1 arg2 harg2 arg3 harg3 arg4 harg4 arg5 harg5 arg6 harg6 arg7 harg7
          (harg1.unread x0) (harg2.unread x1) (harg3.unread x2)
          (arg7.view.writes (Elt F) arg7.view.junk (rows arg4 (harg4.unread x3) arg5 (harg5.unread x4)))
          (Scf.trips k0_t1_loop.lb k0_t1_loop.ub k0_t1_loop.st) := by
  sl_kernel_rfl

end Cert.KernelIdeal.Trip
-- ==== Proof.Half.lean ====
/- The binary16 number a 16-bit pattern denotes, decoded in the two ways the programs decode it: the kernel's (a shifted
   word with its exponent re-biased, a subnormal pattern as a multiple of 2^-24) and the reference's (fraction, power of
   two, sign). The two agree at every pattern. -/
module

public import Idealize.ShloMosaic.PureOps.Ideal
public import Mathlib.Tactic.NormNum
public import Mathlib.Tactic.Ring

@[expose] public section

noncomputable section

namespace Cert.Half

open Idealize.ShloMosaic

/-- The sign bit where the kernel keeps it: bit 31 of a word. -/
def kSign (b : BitVec 16) : BitVec 32 := IntOp.shli .vector (IntOp.andi (b.signExtend 32) 32768#32) 16#32

/-- The pattern without its sign. -/
def kMag (b : BitVec 16) : BitVec 32 := IntOp.andi (b.signExtend 32) 32767#32

/-- The binary32 word of a normal, infinite or NaN pattern. -/
def kWord (b : BitVec 16) : BitVec 32 :=
  IntOp.ori (IntOp.addi (IntOp.shli .vector (kMag b) 13#32)
    (Scalar.select (IntOp.cmpi .sge (kMag b) 31744#32) 1879048192#32 939524096#32)) (kSign b)

/-- The kernel's subnormal reading: the pattern times 2^-24, negated under the sign bit. -/
def kSub (b : BitVec 16) : Ideal .f32 :=
  FloatOps.mulf (F := Ideal) (φ := .f32) (FloatOps.sitofp .f32 (kMag b)) (Scalar.ofBits .f32 0x33800000#32)

/-- The kernel's decoding. -/
def kHalf (b : BitVec 16) : Ideal .f32 :=
  Scalar.select (IntOp.cmpi .slt (kMag b) 1024#32)
    (Scalar.select (IntOp.cmpi .ne (kSign b) 0#32)
      (FloatOps.subf (F := Ideal) (φ := .f32) (Scalar.ofBits .f32 0x00000000#32) (kSub b)) (kSub b))
    (FloatOps.ofBits (F := Ideal) .f32 (kWord b))

/-- The reference's sign, exponent and fraction fields. -/
def rSign (b : BitVec 16) : BitVec 32 := IntOp.andi (IntOp.shrsi .host (b.signExtend 32) 15#32) 1#32
/-- The exponent field. -/
def rExp (b : BitVec 16) : BitVec 32 := IntOp.andi (IntOp.shrsi .host (b.signExtend 32) 10#32) 31#32
/-- The fraction field. -/
def rFrac (b : BitVec 16) : BitVec 32 := IntOp.andi (b.signExtend 32) 1023#32

/-- The reference's decoding before its sign. -/
def rSize (b : BitVec 16) : Ideal .f32 :=
  Scalar.select (IntOp.cmpi .eq (rExp b) 0#32)
    (FloatOps.mulf (F := Ideal) (φ := .f32) (FloatOps.sitofp .f32 (rFrac b)) (FloatOps.ofBits .f32 0x33800000#32))
    (Scalar.select (IntOp.cmpi .eq (rExp b) 31#32) (FloatOps.ofBits (F := Ideal) .f32 0x7F800000#32)
      (FloatOps.mulf (F := Ideal) (φ := .f32)
        (FloatOps.addf (F := Ideal) (φ := .f32) (FloatOps.sitofp .f32 (rFrac b)) (FloatOps.ofBits .f32 0x44800000#32))
        (FloatOps.mulf (F := Ideal) (φ := .f32) (FloatOps.sitofp .f32 (IntOp.shli .host 1#32 (rExp b)))
          (FloatOps.ofBits .f32 0x33000000#32))))

/-- The reference's decoding. -/
def rHalf (b : BitVec 16) : Ideal .f32 :=
  Scalar.select (IntOp.andi (IntOp.cmpi .eq (rExp b) 31#32) (IntOp.cmpi .ne (rFrac b) 0#32))
    (FloatOps.ofBits (F := Ideal) .f32 0x7FC00000#32)
    (Scalar.select (IntOp.cmpi .eq (rSign b) 1#32) (FloatOps.hostNegf (F := Ideal) (φ := .f32) (rSize b)) (rSize b))

/-- What the integer parts of both decodings are, of the pattern whose sign, exponent and fraction are `s`, `e`, `f`. -/
structure Fields (b : BitVec 16) (s e f : Nat) : Prop where
  mag : (kMag b).toInt = e * 1024 + f
  neg : IntOp.cmpi .ne (kSign b) 0#32 = BitVec.ofBool (s == 1)
  small : IntOp.cmpi .slt (kMag b) 1024#32 = BitVec.ofBool (e == 0)
  wneg : e ≠ 0 → ((kWord b).extractLsb' 31 1 == 1#1) = (s == 1)
  wexp : e ≠ 0 → ((kWord b).extractLsb' 23 8).toNat = if e = 31 then 255 else e + 112
  wfrac : e ≠ 0 → ((kWord b).extractLsb' 0 23).toNat = f * 8192
  rneg : IntOp.cmpi .eq (rSign b) 1#32 = BitVec.ofBool (s == 1)
  rzero : IntOp.cmpi .eq (rExp b) 0#32 = BitVec.ofBool (e == 0)
  rtop : IntOp.cmpi .eq (rExp b) 31#32 = BitVec.ofBool (e == 31)
  rnan : IntOp.cmpi .ne (rFrac b) 0#32 = BitVec.ofBool (f != 0)
  rfrac : (rFrac b).toInt = f
  rpow : e ≠ 31 → (IntOp.shli .host 1#32 (rExp b)).toInt = 2 ^ e

/-- The word a pattern is sign-extended to, as a natural number. -/
theorem ext_toNat (b : BitVec 16) :
    (b.signExtend 32).toNat = b.toNat + (if b.toNat < 32768 then 0 else 4294901760) := by
  have hb := b.isLt
  rw [BitVec.toNat_signExtend]
  have : b.msb = decide (32768 ≤ b.toNat) := by rw [BitVec.msb_eq_decide]
  rw [this, BitVec.toNat_setWidth]
  by_cases h : b.toNat < 32768
  · simp only [h, if_true, Nat.not_le.2 h, decide_false]
    simp
    omega
  · simp only [h, if_false, Nat.not_lt.1 h, decide_true, if_true]
    omega

/-- That word as an integer is the pattern's. -/
theorem ext_toInt (b : BitVec 16) : (b.signExtend 32).toInt = b.toInt :=
  BitVec.toInt_signExtend_of_le (by decide)

/-- The kernel's magnitude. -/
theorem kMag_toNat (b : BitVec 16) : (kMag b).toNat = b.toNat % 32768 := by
  have hb := b.isLt
  show ((b.signExtend 32) &&& 32767#32).toNat = _
  rw [BitVec.toNat_and, ext_toNat]
  show _ &&& (2 ^ 15 - 1) = _
  rw [Nat.and_two_pow_sub_one_eq_mod]
  split <;> omega

/-- A natural number masked to one bit. -/
theorem and_pow (a i : Nat) : a &&& 2 ^ i = 2 ^ i * (a / 2 ^ i % 2 ^ 1) := by
  apply Nat.eq_of_testBit_eq
  intro j
  rw [Nat.testBit_and, Nat.testBit_two_pow, Nat.testBit_two_pow_mul, Nat.testBit_mod_two_pow, Nat.testBit_div_two_pow]
  by_cases h : i = j
  · subst h
    simp
  · have : ¬ (i ≤ j ∧ j - i < 1) := by omega
    by_cases h1 : i ≤ j
    · have : ¬ j - i < 1 := by omega
      simp [h, this]
    · simp [h, h1]

/-- A word read with its sign, modulo the word's range. -/
theorem toInt_mod (x : BitVec 32) : x.toInt % 2 ^ 32 = (x.toNat : Int) := by
  have hx := x.isLt
  rw [BitVec.toInt_eq_toNat_cond]
  split <;> omega

/-- The kernel's sign. -/
theorem kSign_toNat (b : BitVec 16) : (kSign b).toNat = 2 ^ 31 * (b.toNat / 32768) := by
  have hb := b.isLt
  show ((((b.signExtend 32) &&& 32768#32)) <<< (16#32)).toNat = _
  have hx := ext_toNat b
  have h1 : ((b.signExtend 32) &&& 32768#32).toNat = 32768 * (b.toNat / 32768) := by
    rw [BitVec.toNat_and]
    show _ &&& 2 ^ 15 = _
    rw [and_pow, hx]
    split <;> omega
  rw [BitVec.shiftLeft_eq', BitVec.toNat_shiftLeft, h1]
  have h2 : (16#32).toNat = 16 := rfl
  rw [h2, Nat.shiftLeft_eq]
  omega

/-- The shifted and re-biased word without its sign. -/
theorem kWord_toNat (b : BitVec 16) : (kWord b).toNat
    = 2 ^ 31 * (b.toNat / 32768)
      + ((b.toNat % 32768) * 8192 + (if 31744 ≤ b.toNat % 32768 then 1879048192 else 939524096)) := by
  have hb := b.isLt
  have hm := kMag_toNat b
  have hc : IntOp.cmpi .sge (kMag b) 31744#32 = BitVec.ofBool (decide (31744 ≤ b.toNat % 32768)) := by
    show BitVec.ofBool (BitVec.sle 31744#32 (kMag b)) = _
    rw [BitVec.sle_eq_decide, BitVec.toInt_eq_toNat_of_lt (x := kMag b) (by omega), hm]
    congr 1
    simp
    omega
  show ((((kMag b) <<< (13#32)) + Scalar.select _ _ _) ||| kSign b).toNat = _
  rw [BitVec.toNat_or, BitVec.toNat_add, BitVec.shiftLeft_eq', BitVec.toNat_shiftLeft, hm, kSign_toNat, hc]
  have h2 : (Scalar.select (BitVec.ofBool (decide (31744 ≤ b.toNat % 32768))) (1879048192#32) 939524096#32).toNat
      = if 31744 ≤ b.toNat % 32768 then 1879048192 else 939524096 := by
    by_cases h : 31744 ≤ b.toNat % 32768 <;> simp [h, Scalar.select]
  rw [h2]
  have h3 : (13#32).toNat = 13 := rfl
  rw [h3, Nat.shiftLeft_eq, Nat.or_comm, ← Nat.two_pow_add_eq_or_of_lt (by split <;> omega)]
  split <;> omega

/-- The pattern read with its sign. -/
theorem toInt_eq (b : BitVec 16) : b.toInt = if b.toNat < 32768 then (b.toNat : Int) else b.toNat - 65536 := by
  rw [BitVec.toInt_eq_toNat_cond]
  by_cases h : b.toNat < 32768
  · rw [if_pos h, if_pos (by omega)]
  · rw [if_neg h, if_neg (by omega)]
    rfl

/-- An arithmetic shift of the widened pattern, masked to its low bits. -/
theorem field_toNat (b : BitVec 16) (k m : Nat) (hk : k < 32) (hm : m < 32) :
    (((b.signExtend 32).sshiftRight k) &&& BitVec.ofNat 32 (2 ^ m - 1)).toNat
      = ((b.toInt / 2 ^ k) % 2 ^ m).toNat := by
  have hlt : 2 ^ m ≤ 2 ^ 31 := Nat.pow_le_pow_right (by decide) (by omega)
  have hdvd : (2 : Int) ^ m ∣ 2 ^ 32 := pow_dvd_pow 2 (by omega)
  rw [BitVec.toNat_and, BitVec.toNat_ofNat, Nat.mod_eq_of_lt (a := 2 ^ m - 1) (by omega), Nat.and_two_pow_sub_one_eq_mod]
  have h : (((b.signExtend 32).sshiftRight k).toNat : Int) = (b.toInt / 2 ^ k) % 2 ^ 32 := by
    have e := toInt_mod ((b.signExtend 32).sshiftRight k)
    rw [← e, BitVec.toInt_sshiftRight, ext_toInt, Int.shiftRight_eq_div_pow]
    norm_cast
  have h2 : ((((b.signExtend 32).sshiftRight k).toNat % 2 ^ m : Nat) : Int) = (b.toInt / 2 ^ k) % 2 ^ m := by
    push_cast
    rw [h, Int.emod_emod_of_dvd _ hdvd]
  rw [← h2]
  rfl

/-- The reference's exponent. -/
theorem rExp_eq (b : BitVec 16) : rExp b = BitVec.ofNat 32 (b.toNat / 1024 % 32) := by
  apply BitVec.eq_of_toNat_eq
  have hb := b.isLt
  have h := field_toNat b 10 5 (by decide) (by decide)
  show (((b.signExtend 32).sshiftRight 10) &&& BitVec.ofNat 32 (2 ^ 5 - 1)).toNat = _
  rw [h, toInt_eq, BitVec.toNat_ofNat]
  split <;> omega

/-- The reference's sign. -/
theorem rSign_eq (b : BitVec 16) : rSign b = BitVec.ofNat 32 (b.toNat / 32768) := by
  apply BitVec.eq_of_toNat_eq
  have hb := b.isLt
  have h := field_toNat b 15 1 (by decide) (by decide)
  show (((b.signExtend 32).sshiftRight 15) &&& BitVec.ofNat 32 (2 ^ 1 - 1)).toNat = _
  rw [h, toInt_eq, BitVec.toNat_ofNat]
  split <;> omega

/-- The reference's fraction. -/
theorem rFrac_eq (b : BitVec 16) : rFrac b = BitVec.ofNat 32 (b.toNat % 1024) := by
  apply BitVec.eq_of_toNat_eq
  have hb := b.isLt
  show ((b.signExtend 32) &&& BitVec.ofNat 32 (2 ^ 10 - 1)).toNat = _
  rw [BitVec.toNat_and, BitVec.toNat_ofNat, Nat.mod_eq_of_lt (a := 2 ^ 10 - 1) (by decide), Nat.and_two_pow_sub_one_eq_mod, ext_toNat,
    BitVec.toNat_ofNat]
  split <;> omega

/-- Exponents, one by one. -/
theorem exp_cases : ∀ e : Fin 32, (IntOp.cmpi .eq (BitVec.ofNat 32 e.val) 0#32 = BitVec.ofBool (e.val == 0)
    ∧ IntOp.cmpi .eq (BitVec.ofNat 32 e.val) 31#32 = BitVec.ofBool (e.val == 31))
    ∧ (e.val ≠ 31 → (IntOp.shli .host 1#32 (BitVec.ofNat 32 e.val)).toInt = 2 ^ e.val) := by
  decide +kernel

/-- Every pattern has its fields. -/
theorem exists_fields (b : BitVec 16) : ∃ s e f : Nat, s < 2 ∧ e < 32 ∧ f < 1024 ∧ Fields b s e f := by
  have hb := b.isLt
  have hm := kMag_toNat b
  have hmi : (kMag b).toInt = ((b.toNat % 32768 : Nat) : Int) := by
    rw [BitVec.toInt_eq_toNat_of_lt (by omega), hm]
  have hw := kWord_toNat b
  have hE := exp_cases ⟨b.toNat / 1024 % 32, by omega⟩
  have hsl : b.toNat / 32768 = 0 ∨ b.toNat / 32768 = 1 := by omega
  refine ⟨b.toNat / 32768, b.toNat / 1024 % 32, b.toNat % 1024, by omega, by omega, by omega, ?_, ?_, ?_, ?_, ?_, ?_, ?_, ?_, ?_, ?_, ?_, ?_⟩
  · rw [hmi]
    omega
  · show BitVec.ofBool (kSign b != 0#32) = _
    have : (kSign b != 0#32) = (b.toNat / 32768 == 1) := by
      have hs := kSign_toNat b
      rcases hsl with h | h
      · have : kSign b = 0#32 := BitVec.eq_of_toNat_eq (by rw [hs, h]; rfl)
        rw [this, h]
        rfl
      · have : kSign b = 2147483648#32 := BitVec.eq_of_toNat_eq (by rw [hs, h]; rfl)
        rw [this, h]
        rfl
    rw [this]
  · show BitVec.ofBool (BitVec.slt (kMag b) 1024#32) = _
    rw [BitVec.slt_eq_decide, hmi]
    congr 1
    rw [Bool.eq_iff_iff]
    simp
    omega
  · intro he
    rw [Bool.eq_iff_iff]
    rw [beq_iff_eq, beq_iff_eq, ← BitVec.toNat_inj, BitVec.extractLsb'_toNat, hw, Nat.shiftRight_eq_div_pow]
    show _ = 1 ↔ _
    split <;> omega
  · intro he
    rw [BitVec.extractLsb'_toNat, hw, Nat.shiftRight_eq_div_pow]
    split <;> split <;> omega
  · intro he
    rw [BitVec.extractLsb'_toNat, hw, Nat.shiftRight_eq_div_pow]
    split <;> omega
  · rw [rSign_eq]
    rcases hsl with h | h <;> rw [h] <;> rfl
  · rw [rExp_eq]
    exact hE.1.1
  · rw [rExp_eq]
    exact hE.1.2
  · rw [rFrac_eq]
    show BitVec.ofBool (BitVec.ofNat 32 (b.toNat % 1024) != 0#32) = _
    congr 1
    rw [Bool.eq_iff_iff, bne_iff_ne, bne_iff_ne, ne_eq, ne_eq, ← BitVec.toNat_inj, BitVec.toNat_ofNat]
    show ¬ (_ = 0) ↔ _
    omega
  · rw [rFrac_eq, BitVec.toInt_eq_toNat_of_lt (by rw [BitVec.toNat_ofNat]; omega), BitVec.toNat_ofNat]
    omega
  · rw [rExp_eq]
    exact hE.2

/-- The constant 2^-24. -/
theorem c24 : (FloatOps.ofBits (F := Ideal) .f32 0x33800000#32 : EReal) = (((2 : ℝ) ^ (-24 : ℤ) : ℝ) : EReal) := by
  show Ideal.ieee 8 23 0x33800000#32 = _
  simp only [Ideal.ieee, BitVec.reduceExtractLsb', BitVec.reduceToNat]
  simp
  rw [← EReal.coe_mul]
  norm_num

/-- The constant 2^-25. -/
theorem c25 : (FloatOps.ofBits (F := Ideal) .f32 0x33000000#32 : EReal) = (((2 : ℝ) ^ (-25 : ℤ) : ℝ) : EReal) := by
  show Ideal.ieee 8 23 0x33000000#32 = _
  simp only [Ideal.ieee, BitVec.reduceExtractLsb', BitVec.reduceToNat]
  simp
  rw [← EReal.coe_mul]
  norm_num

/-- The constant 1024. -/
theorem c1024 : (FloatOps.ofBits (F := Ideal) .f32 0x44800000#32 : EReal) = ((1024 : ℝ) : EReal) := by
  show Ideal.ieee 8 23 0x44800000#32 = _
  simp only [Ideal.ieee, BitVec.reduceExtractLsb', BitVec.reduceToNat]
  simp
  rw [← EReal.coe_mul]
  norm_num

/-- The constant zero. -/
theorem c0 : (Scalar.ofBits (F := Ideal) .f32 0x00000000#32 : EReal) = 0 := by
  show Ideal.ieee 8 23 0x00000000#32 = _
  simp [Ideal.ieee]

/-- The infinity. -/
theorem cinf : (FloatOps.ofBits (F := Ideal) .f32 0x7F800000#32 : EReal) = ⊤ := by
  show Ideal.ieee 8 23 0x7F800000#32 = _
  simp [Ideal.ieee]

/-- A NaN denotes the least element. -/
theorem cnan : (FloatOps.ofBits (F := Ideal) .f32 0x7FC00000#32 : EReal) = ⊥ := by
  show Ideal.ieee 8 23 0x7FC00000#32 = _
  simp [Ideal.ieee]

/-- A choice on a decided bit. -/
theorem select_ofBool {α : Type} (c : Bool) (a b : α) : Scalar.select (BitVec.ofBool c) a b = if c then a else b := by
  cases c <;> rfl

/-- The two decodings agree at every pattern. -/
theorem kHalf_eq (b : BitVec 16) : kHalf b = rHalf b := by
  obtain ⟨s, e, f, hs, he, hf, h⟩ := exists_fields b
  have hw : FloatOps.ofBits (F := Ideal) .f32 (kWord b) = Ideal.ieee 8 23 (kWord b) := rfl
  have hN : ∀ x : EReal, FloatOps.hostNegf (F := Ideal) (φ := .f32) x = -x := fun _ => rfl
  have hS : ∀ x y : EReal, FloatOps.subf (F := Ideal) (φ := .f32) x y = x - y := fun _ _ => rfl
  have hM : ∀ x y : EReal, FloatOps.mulf (F := Ideal) (φ := .f32) x y = x * y := fun _ _ => rfl
  have hA : ∀ x y : EReal, FloatOps.addf (F := Ideal) (φ := .f32) x y = x + y := fun _ _ => rfl
  have hI : ∀ x : BitVec 32, (FloatOps.sitofp (F := Ideal) .f32 x : EReal) = ((x.toInt : ℝ) : EReal) := fun _ => rfl
  have hc : (Scalar.ofBits (F := Ideal) .f32 0x33800000#32 : EReal) = (((2 : ℝ) ^ (-24 : ℤ) : ℝ) : EReal) := c24
  have hand : IntOp.andi (BitVec.ofBool (e == 31)) (BitVec.ofBool (f != 0)) = BitVec.ofBool ((e == 31) && (f != 0)) := by
    cases (e == 31) <;> cases (f != 0) <;> rfl
  unfold kHalf rHalf
  rw [h.small, h.neg, h.rneg, h.rtop, h.rnan, hand]
  simp only [select_ofBool]
  by_cases e0 : e = 0
  · subst e0
    have hz : rSize b = kSub b := by
      have e1 : FloatOps.mulf (F := Ideal) (φ := .f32) (FloatOps.sitofp .f32 (rFrac b)) (FloatOps.ofBits .f32 0x33800000#32)
          = kSub b := by
        unfold kSub
        rw [hM, hI, h.rfrac, hM, hI, h.mag]
        simp
      unfold rSize
      rw [h.rzero, e1]
      rfl
    have hk : kSub b = (((f : ℝ) * (2 : ℝ) ^ (-24 : ℤ) : ℝ) : EReal) := by
      unfold kSub
      rw [hM, hI, h.mag, hc, ← EReal.coe_mul]
      simp
    rw [hz, hN, hS, hk, c0]
    simp
  · rw [hw]
    have hwn := h.wneg e0
    have hwe := h.wexp e0
    have hwf := h.wfrac e0
    unfold Ideal.ieee rSize
    simp only [h.rzero, h.rtop, select_ofBool]
    rw [hwn, hwe, hwf]
    by_cases e31 : e = 31
    · subst e31
      rw [cnan, cinf, hN]
      by_cases hf0 : f = 0
      · subst hf0
        simp
      · simp [hf0]
    · have hne : ¬ (e + 112 = 255) := by omega
      have hpow : (2 : ℝ) ^ ((e : ℤ) + 112 - 127 - 23) * 8192 = (2 : ℝ) ^ e * (2 : ℝ) ^ (-25 : ℤ) := by
        rw [show (8192 : ℝ) = (2 : ℝ) ^ (13 : ℤ) by norm_num, ← zpow_natCast, ← zpow_add₀ two_ne_zero, ← zpow_add₀ two_ne_zero]
        congr 1
        ring
      have hval : FloatOps.mulf (F := Ideal) (φ := .f32)
          (FloatOps.addf (F := Ideal) (φ := .f32) (FloatOps.sitofp .f32 (rFrac b)) (FloatOps.ofBits .f32 0x44800000#32))
          (FloatOps.mulf (F := Ideal) (φ := .f32) (FloatOps.sitofp .f32 (IntOp.shli .host 1#32 (rExp b)))
            (FloatOps.ofBits .f32 0x33000000#32))
          = ((((f : ℝ) + 1024) * ((2 : ℝ) ^ e * (2 : ℝ) ^ (-25 : ℤ)) : ℝ) : EReal) := by
        rw [hM, hM, hA, hI, hI, h.rfrac, h.rpow e31, c1024, c25, EReal.coe_mul, EReal.coe_mul, EReal.coe_add]
        simp
      rw [hval]
      have key : ∀ g : ℝ, g * ((2 ^ 23 + f * 8192 : Nat) : ℝ) * (2 : ℝ) ^ ((e : ℤ) + 112 - 127 - 23)
          = g * (((f : ℝ) + 1024) * ((2 : ℝ) ^ e * (2 : ℝ) ^ (-25 : ℤ))) := by
        intro g
        rw [← hpow]
        push_cast
        ring
      have hb : ((((if e = 31 then 255 else e + 112 : Nat)) : ℤ) - (2 ^ (8 - 1) - 1) - ((23 : Nat) : ℤ))
          = (e : ℤ) + 112 - 127 - 23 := by
        rw [if_neg e31]
        push_cast
        ring
      have b0 : (e == 0) = false := by simp [e0]
      have b31 : (e == 31) = false := by simp [e31]
      have c1 : ¬ ((if e = 31 then 255 else e + 112 : Nat) = 2 ^ 8 - 1) := by
        rw [if_neg e31]
        omega
      have c2 : ¬ ((if e = 31 then 255 else e + 112 : Nat) = 0) := by
        rw [if_neg e31]
        omega
      rw [if_neg c1, if_neg c2, hb, key, b0, b31, hN]
      rcases (by omega : s = 0 ∨ s = 1) with rfl | rfl
      · simp
      · simp

end Cert.Half
-- ==== Proof.Block.lean ====
/- What the kernel's body leaves in its block of the result, at an index. -/
module

public import proofs.«01_k».proof.Proof.Rows
public import proofs.«01_k».proof.Proof.Half
public import Idealize.ShloMosaic.Lib.Pipeline.ValueKit

@[expose] public section

set_option maxRecDepth 8192

noncomputable section

namespace Cert.KernelIdeal.Trip
open Idealize.ShloMosaic Idealize.ShloMosaic.TcCoe Cert.KernelIdeal Cert.KernelIdeal.Gen Cert.Byte Cert.Half
open Idealize.SL Idealize.SL.Sem

/-- The kernel's decoding of the halves, at an index. -/
theorem half_apply (v : Vec Ideal S20x1024 .i16) (i : S20x1024.Idx) : k0_pay1771 (F := Ideal) v i = kHalf (v i) := by
  unfold k0_pay1771
  rw [shapeCast_self]
  rfl

/-- A row of scales at an index. -/
theorem rowPiece_apply (d : FVec Ideal S20x1024 .f32) (n : Fin 20) (v : Vec Ideal S1x16x1024 .i8) (p : Fin 16) (l : Fin 1024) :
    rowPiece d n v (ix2 p l) = (((v (ix3 0 p l)).toInt : ℝ) : EReal) * d (ix2 n l) := by
  unfold rowPiece
  rw [shapeCast_self]
  refine congrArg₂ (fun a b : EReal => a * b) ?_ ?_
  · show (((shapeCast S16x1024 v shapeCasts_S1x16x1024_S16x1024 (ix2 p l)).toInt : ℝ) : EReal) = _
    pointwise
  · pointwise

/-- A load of activations. -/
theorem ldX_apply (arg1 : Memref sig .tc .vmem S32x5120 .bf16) (h : arg1.IsWhole) (x : Vec Ideal S32x5120 .bf16)
    (n : Fin 20) (b : Fin 32) (k : Fin 256) :
    ldX arg1 (h.unread x) n (ix2 b k) = x (ix2 b ⟨n.val * 256 + k.val, by have := n.isLt; have := k.isLt; omega⟩) := by
  unfold ldX
  rw [View.readAt_eq_ld, h.read_unread]
  exact View.ld_unit_apply_of _ _ _ _ _ _ (by
    intro a
    fin_cases a
    · exact (Nat.zero_add _).symm
    · rfl)

/-- A load of low bytes. -/
theorem ldQ_apply (arg2 : Memref sig .tc .vmem S2560x1024 .i8) (h : arg2.IsWhole) (x : Vec Ideal S2560x1024 .i8)
    (k : Fin k0_t1_loop.trips) (n : Fin 20) (t : Fin 2) (u : Fin 4) (r : Fin 32) (l : Fin 128) :
    ldQ arg2 (h.unread x) k n t u (ix2 r l)
      = x (ix2 ⟨n.val * 128 + u.val * 32 + r.val, by have := n.isLt; have := u.isLt; have := r.isLt; omega⟩
          ⟨lane k t + l.val, by have := lane_le k t; have := l.isLt; omega⟩) := by
  unfold ldQ
  rw [View.readAt_eq_ld, h.read_unread]
  exact View.ld_unit_apply_of _ _ _ _ _ _ (by
    intro a
    fin_cases a
    · rfl
    · rfl)

/-- A load of high bytes. -/
theorem ldW_apply (arg3 : Memref sig .tc .vmem S1280x1024 .i8) (h : arg3.IsWhole) (x : Vec Ideal S1280x1024 .i8)
    (k : Fin k0_t1_loop.trips) (n : Fin 20) (t : Fin 2) (u : Fin 2) (r : Fin 32) (l : Fin 128) :
    ldW arg3 (h.unread x) k n t u (ix2 r l)
      = x (ix2 ⟨n.val * 64 + u.val * 32 + r.val, by have := n.isLt; have := u.isLt; have := r.isLt; omega⟩
          ⟨lane k t + l.val, by have := lane_le k t; have := l.isLt; omega⟩) := by
  unfold ldW
  rw [View.readAt_eq_ld, h.read_unread]
  exact View.ld_unit_apply_of _ _ _ _ _ _ (by
    intro a
    fin_cases a
    · rfl
    · rfl)

/-- A load of a row of the scales stored before the loop. -/
theorem ldE_apply (arg4 : Memref sig .tc .vmem S20x16x1024 .i8) (h4 : arg4.IsWhole) (x3 : Vec Ideal S20x16x1024 .i8)
    (arg5 : Memref sig .tc .vmem S20x1024 .i16) (h5 : arg5.IsWhole) (x4 : Vec Ideal S20x1024 .i16)
    (arg7 : Memref sig .tc .vmem S320x1024 .f32) (f : BufTy.Contents (Elt Ideal) arg7.view.ty)
    (k : Fin k0_t1_loop.trips) (n : Fin 20) (t : Fin 2) (p : Fin 16) (l : Fin 128) :
    ldE arg7 (arg7.view.writes (Elt Ideal) f (rows arg4 (h4.unread x3) arg5 (h5.unread x4))) k n t p (ix2 0 l)
      = (((x3 (ix3 n p ⟨lane k t + l.val, by have := lane_le k t; have := l.isLt; omega⟩)).toInt : ℝ) : EReal)
        * kHalf (x4 (ix2 n ⟨lane k t + l.val, by have := lane_le k t; have := l.isLt; omega⟩)) := by
  unfold ldE rows
  have hl := lane_le k t
  rw [View.readAt_eq_ld, View.ld_unit_apply_of _ _ _ _ _ (ix2 ⟨n.val * 16 + p.val, by have := n.isLt; have := p.isLt; omega⟩
    ⟨lane k t + l.val, by have := l.isLt; omega⟩) (by
      intro a
      fin_cases a
      · rfl
      · rfl),
    View.read_tilePieces (s := S320x1024) arg7.view f S16x1024.size (fun n : Fin 20 => ![n.val * 16, 0]) inbR _ 20 le_rfl _ n n.isLt
      (ix2 p ⟨lane k t + l.val, by have := l.isLt; omega⟩) (by
        intro a
        fin_cases a
        · rfl
        · exact (Nat.zero_add _).symm) 0 (by
        intro n' hn
        have h1 : n'.val ≠ n.val := fun h => hn (Fin.ext h)
        have h2 := p.isLt
        show n.val * 16 + p.val < n'.val * 16 ∨ n'.val * 16 + 16 ≤ n.val * 16 + p.val
        omega),
    rowPiece_apply, half_apply, View.readAt_eq_ld, View.readAt_eq_ld, h4.read_unread, h5.read_unread]
  refine congr (congrArg HMul.hMul ?_) ?_
  · rw [View.ld_unit_apply_of _ _ _ _ _ (ix3 n p ⟨lane k t + l.val, by have := l.isLt; omega⟩) (by
      intro a
      fin_cases a
      · rfl
      · exact (Nat.zero_add _).symm
      · exact (Nat.zero_add _).symm)]
  · rw [View.ld_unit_apply_of _ _ _ _ _ (ix2 n ⟨lane k t + l.val, by have := l.isLt; omega⟩) (by
      intro a
      fin_cases a
      · exact (Nat.zero_add _).symm
      · exact (Nat.zero_add _).symm)]

/-- One product of a block: activation times weight times scale. -/
def outTerm (x0 : Vec Ideal S32x5120 .bf16) (x1 : Vec Ideal S2560x1024 .i8) (x2 : Vec Ideal S1280x1024 .i8)
    (x3 : Vec Ideal S20x16x1024 .i8) (x4 : Vec Ideal S20x1024 .i16) (b : Fin 32) (col : Fin 1024)
    (n : Fin 20) (p i : Fin 16) : EReal :=
  x0 (ix2 b ⟨n.val * 256 + (p.val * 16 + i.val), by have := n.isLt; have := p.isLt; have := i.isLt; omega⟩)
    * ((((weight
        (x1 (ix2 ⟨n.val * 128 + (p.val / 8 * 2 + p.val / 2 % 2) * 32 + (p.val % 2 * 16 + i.val), by
          have := n.isLt; have := p.isLt; have := i.isLt; omega⟩ col))
        (x2 (ix2 ⟨n.val * 64 + p.val / 8 * 32 + (p.val % 2 * 16 + i.val), by
          have := n.isLt; have := p.isLt; have := i.isLt; omega⟩ col))
        (Fin.ofNat 4 (p.val / 2)) : ℤ) : ℝ) : EReal)
      * ((((x3 (ix3 n p col)).toInt : ℝ) : EReal) * kHalf (x4 (ix2 n col))))

/-- A term of a chunk's sum is a product of the block. -/
theorem term_eq (arg1 : Memref sig .tc .vmem S32x5120 .bf16) (h1 : arg1.IsWhole)
    (arg2 : Memref sig .tc .vmem S2560x1024 .i8) (h2 : arg2.IsWhole)
    (arg3 : Memref sig .tc .vmem S1280x1024 .i8) (h3 : arg3.IsWhole)
    (arg4 : Memref sig .tc .vmem S20x16x1024 .i8) (h4 : arg4.IsWhole)
    (arg5 : Memref sig .tc .vmem S20x1024 .i16) (h5 : arg5.IsWhole) (arg7 : Memref sig .tc .vmem S320x1024 .f32)
    (f : BufTy.Contents (Elt Ideal) arg7.view.ty)
    (x0 : Vec Ideal S32x5120 .bf16) (x1 : Vec Ideal S2560x1024 .i8) (x2 : Vec Ideal S1280x1024 .i8)
    (x3 : Vec Ideal S20x16x1024 .i8) (x4 : Vec Ideal S20x1024 .i16)
    (k : Fin k0_t1_loop.trips) (t : Fin 2) (b : Fin 32) (l : Fin 128) (n : Fin 20) (p i : Fin 16) :
    term (ldX arg1 (h1.unread x0) n) (ldQ arg2 (h2.unread x1) k n t) (ldW arg3 (h3.unread x2) k n t)
        (ldE arg7 (arg7.view.writes (Elt Ideal) f (rows arg4 (h4.unread x3) arg5 (h5.unread x4))) k n t) b l p i
      = outTerm x0 x1 x2 x3 x4 b ⟨lane k t + l.val, by have := lane_le k t; have := l.isLt; omega⟩ n p i := by
  have hp := p.isLt
  have e1 : ((Fin.ofNat 4 (p.val / 8 * 2 + p.val / 2 % 2)).val) = p.val / 8 * 2 + p.val / 2 % 2 :=
    Nat.mod_eq_of_lt (by omega)
  have e2 : ((Fin.ofNat 2 (p.val / 8)).val) = p.val / 8 := Nat.mod_eq_of_lt (by omega)
  unfold term outTerm
  rw [ldX_apply, ldQ_apply, ldW_apply, ldE_apply]
  simp only [e1, e2]

/-- The block of the result the body leaves. -/
def outBlock (x0 : Vec Ideal S32x5120 .bf16) (x1 : Vec Ideal S2560x1024 .i8) (x2 : Vec Ideal S1280x1024 .i8)
    (x3 : Vec Ideal S20x16x1024 .i8) (x4 : Vec Ideal S20x1024 .i16) : Vec Ideal S32x1024 .bf16 := fun y =>
  (∑ n : Fin 20, ∑ p : Fin 16, ∑ i : Fin 16, outTerm x0 x1 x2 x3 x4 (y 0) (y 1) n p i : EReal)

/-- Chunk `k`'s store starts at row zero and column `256 k`. -/
theorem off441_eq : ∀ k : Fin k0_t1_loop.trips, k0_off441 k 0 = 0 ∧ k0_off441 k 1 = 256 * k.val := by
  decide +kernel

/-- Every piece the loop stores is a part of that block. -/
theorem pieces_eq (c : Dev nD) (i : grid0.Coords) (arg1 : Memref sig .tc .vmem S32x5120 .bf16) (harg1 : arg1.IsWhole) (arg2 : Memref sig .tc .vmem S2560x1024 .i8) (harg2 : arg2.IsWhole) (arg3 : Memref sig .tc .vmem S1280x1024 .i8) (harg3 : arg3.IsWhole) (arg4 : Memref sig .tc .vmem S20x16x1024 .i8) (harg4 : arg4.IsWhole) (arg5 : Memref sig .tc .vmem S20x1024 .i16) (harg5 : arg5.IsWhole) (arg6 : Memref sig .tc .vmem S32x1024 .bf16) (harg6 : arg6.IsWhole) (arg7 : Memref sig .tc .vmem S320x1024 .f32) (harg7 : arg7.IsWhole)
    (x0 : Vec Ideal S32x5120 .bf16) (x1 : Vec Ideal S2560x1024 .i8) (x2 : Vec Ideal S1280x1024 .i8) (x3 : Vec Ideal S20x16x1024 .i8) (x4 : Vec Ideal S20x1024 .i16) :
    ∀ j : Nat, j ≤ k0_t1_loop.trips → ∀ q ∈ pb_k0_t1 (F := Ideal) Variants.none c none i arg1 harg1 arg2 harg2 arg3 harg3 arg4 harg4 arg5 harg5 arg6 harg6 arg7 harg7
          (harg1.unread x0) (harg2.unread x1) (harg3.unread x2)
          (arg7.view.writes (Elt Ideal) arg7.view.junk (rows arg4 (harg4.unread x3) arg5 (harg5.unread x4))) j,
      ∀ x : q.1.shape.Idx, q.2 x = outBlock x0 x1 x2 x3 x4 (q.1.emb x) := by
  intro j
  induction j with
  | zero => intro _ q hq; exact absurd hq List.not_mem_nil
  | succ j ih =>
    intro hj q hq
    rw [pb_k0_t1_succ Variants.none c none i arg1 harg1 arg2 harg2 arg3 harg3 arg4 harg4 arg5 harg5 arg6 harg6 arg7 harg7
      _ _ _ _ ⟨j, hj⟩, List.mem_append, trip_eq, List.mem_singleton] at hq
    rcases hq with rfl | hq
    · intro x
      obtain ⟨b, kk, rfl⟩ : ∃ (b : Fin 32) (kk : Fin 256), x = ix2 b kk := ⟨x 0, x 1, by
        funext a; fin_cases a <;> rfl⟩
      obtain ⟨t, l, rfl⟩ : ∃ (t : Fin 2) (l : Fin 128), kk = ⟨t.val * 128 + l.val, by have := t.isLt; have := l.isLt; omega⟩ :=
        ⟨⟨kk.val / 128, by have := kk.isLt; omega⟩, ⟨kk.val % 128, by omega⟩, Fin.ext (by dsimp only; omega)⟩
      show acc (F := Ideal) _ _ _ _ 20 (ix2 b ⟨t.val * 128 + l.val, _⟩) = _
      rw [acc_all]
      have hlane := lane_eq ⟨j, hj⟩ t
      have hle := lane_le ⟨j, hj⟩ t
      have hE : (Rect.unit (s := S32x1024) (k0_off441 ⟨j, hj⟩) S32x256.size (k0_off441_inb ⟨j, hj⟩)).emb
          (ix2 b ⟨t.val * 128 + l.val, by have := t.isLt; have := l.isLt; omega⟩)
          = ix2 b ⟨lane ⟨j, hj⟩ t + l.val, by have := l.isLt; omega⟩ := by
        apply Rect.emb_eq_of_coords
        intro a
        fin_cases a
        · show b.val = k0_off441 ⟨j, hj⟩ 0 + 1 * b.val
          rw [(off441_eq ⟨j, hj⟩).1]
          omega
        · show lane ⟨j, hj⟩ t + l.val = k0_off441 ⟨j, hj⟩ 1 + 1 * (t.val * 128 + l.val)
          rw [(off441_eq ⟨j, hj⟩).2, hlane]
          dsimp only
          omega
      refine Eq.trans ?_ (congrArg (outBlock x0 x1 x2 x3 x4) hE.symm)
      unfold outBlock
      refine Finset.sum_congr rfl fun n _ => Finset.sum_congr rfl fun p _ => Finset.sum_congr rfl fun i _ => ?_
      exact term_eq ..
    · exact ih (Nat.le_of_succ_le hj) q hq

/-- What the body leaves in the result's staging buffer. -/
theorem out_eq (c : Dev nD) (i : grid0.Coords) (arg1 : Memref sig .tc .vmem S32x5120 .bf16) (harg1 : arg1.IsWhole) (arg2 : Memref sig .tc .vmem S2560x1024 .i8) (harg2 : arg2.IsWhole) (arg3 : Memref sig .tc .vmem S1280x1024 .i8) (harg3 : arg3.IsWhole) (arg4 : Memref sig .tc .vmem S20x16x1024 .i8) (harg4 : arg4.IsWhole) (arg5 : Memref sig .tc .vmem S20x1024 .i16) (harg5 : arg5.IsWhole) (arg6 : Memref sig .tc .vmem S32x1024 .bf16) (harg6 : arg6.IsWhole) (arg7 : Memref sig .tc .vmem S320x1024 .f32) (harg7 : arg7.IsWhole)
    (x0 : Vec Ideal S32x5120 .bf16) (x1 : Vec Ideal S2560x1024 .i8) (x2 : Vec Ideal S1280x1024 .i8) (x3 : Vec Ideal S20x16x1024 .i8) (x4 : Vec Ideal S20x1024 .i16) :
    out0_A_5 (F := Ideal) c i arg1 harg1 arg2 harg2 arg3 harg3 arg4 harg4 arg5 harg5 arg6 harg6 arg7 harg7 x0 x1 x2 x3 x4
      = outBlock x0 x1 x2 x3 x4 := by
  funext y
  unfold out0_A_5
  refine View.read_writes_apply_of_pieces _ _ (outBlock x0 x1 x2 x3 x4) _ ?_ y
    (cover0_A_5 c i arg1 harg1 arg2 harg2 arg3 harg3 arg4 harg4 arg5 harg5 arg6 harg6 arg7 harg7 x0 x1 x2 x3 x4 y)
  rw [run_eq]
  exact pieces_eq c i arg1 harg1 arg2 harg2 arg3 harg3 arg4 harg4 arg5 harg5 arg6 harg6 arg7 harg7 x0 x1 x2 x3 x4 _ le_rfl

end Cert.KernelIdeal.Trip
-- ==== Proof.Blocks.lean ====
/- The kernel's blocks of operands, in the arguments. -/
module

public import proofs.«01_k».proof.Proof.Gen.KernelIdeal.Frame
public import Idealize.ShloMosaic.Lib.Claim
public import Idealize.ShloMosaic.Lib.Pointwise
public import Idealize.ShloMosaic.Lib.Pipeline.ValueKit

@[expose] public section

set_option maxRecDepth 8192

noncomputable section

namespace Cert.KernelIdeal.Trip
open Idealize.ShloMosaic Idealize.ShloMosaic.TcCoe Cert.KernelIdeal Cert.KernelIdeal.Gen
open Idealize.SL Idealize.SL.Sem

variable (m : (ℓ : Loc nD τ sig) → Buf (Elt Ideal) ℓ)

/-- The index maps: the activations' block is whole, the others move along the columns. -/
theorem idx : ∀ t : Fin cfg0.N, win0_0.index t = ![0, 0] ∧ win0_1.index t = ![0, t.val] ∧ win0_2.index t = ![0, t.val]
    ∧ win0_3.index t = ![0, 0, t.val] ∧ win0_4.index t = ![0, t.val] ∧ win0_5.index t = ![0, t.val] :=
  (by decide +kernel : ∀ t : Fin grid0.N, _)

/-- There are thirty-five blocks. -/
theorem pt_lt (t : Fin cfg0.N) : t.val < 35 := lt_of_lt_of_eq t.isLt N_0

/-- The result's column `col` of block `t`. -/
def colAt (t : Fin cfg0.N) (col : Fin 1024) : Fin 35840 := ⟨t.val * 1024 + col.val, by have := pt_lt t; have := col.isLt; omega⟩

/-- Every block's activations are the whole argument. -/
theorem blk0 (c : Dev nD) (t : Fin cfg0.N) (b : Fin 32) (k : Fin 5120) :
    (show Vec Ideal S32x5120 .bf16 from iblk m c 0 t) (ix2 b k) = m ((c : Thread nD τ).loc main_arg0) (ix3 b 0 k) := by
  blk_simp [iblk]
  entry_read
  pointwise
  blk_ext [idx t]

/-- A block's low bytes: row `R` is super-block `R / 128`, half `R / 64 % 2`, byte `R % 64`. -/
theorem blk1 (c : Dev nD) (t : Fin cfg0.N) (R : Fin 2560) (col : Fin 1024) :
    (show Vec Ideal S2560x1024 .i8 from iblk m c 1 t) (ix2 R col) = m ((c : Thread nD τ).loc main_arg1)
      (ix4 (colAt t col) ⟨R.val / 128, by have := R.isLt; omega⟩ ⟨R.val / 64 % 2, by omega⟩ ⟨R.val % 64, by omega⟩) := by
  blk_simp [iblk]
  entry_read
  pointwise
  blk_ext [idx t, colAt]

/-- A block's high bytes: row `R` is super-block `R / 64`, half `R / 32 % 2`, byte `R % 32`. -/
theorem blk2 (c : Dev nD) (t : Fin cfg0.N) (R : Fin 1280) (col : Fin 1024) :
    (show Vec Ideal S1280x1024 .i8 from iblk m c 2 t) (ix2 R col) = m ((c : Thread nD τ).loc main_arg2)
      (ix4 (colAt t col) ⟨R.val / 64, by have := R.isLt; omega⟩ ⟨R.val / 32 % 2, by omega⟩ ⟨R.val % 32, by omega⟩) := by
  blk_simp [iblk]
  entry_read
  pointwise
  blk_ext [idx t, colAt]

/-- A block's scales are the argument's at the block's columns. -/
theorem blk3 (c : Dev nD) (t : Fin cfg0.N) (n : Fin 20) (p : Fin 16) (col : Fin 1024) :
    (show Vec Ideal S20x16x1024 .i8 from iblk m c 3 t) (ix3 n p col) = m ((c : Thread nD τ).loc main_arg3)
      (ix3 (colAt t col) n p) := by
  blk_simp [iblk]
  entry_read
  pointwise
  blk_ext [idx t, colAt]

/-- A block's halves are the argument's at the block's columns. -/
theorem blk4 (c : Dev nD) (t : Fin cfg0.N) (n : Fin 20) (col : Fin 1024) :
    (show Vec Ideal S20x1024 .i16 from iblk m c 4 t) (ix2 n col) = m ((c : Thread nD τ).loc main_arg4)
      (ix2 (colAt t col) n) := by
  blk_simp [iblk]
  entry_read
  pointwise
  blk_ext [idx t, colAt]

end Cert.KernelIdeal.Trip
-- ==== Proof.Entry.lean ====
/- One product of the sum both programs compute, over the arguments' entries. -/
module

public import proofs.«01_k».proof.Proof.Byte
public import proofs.«01_k».proof.Proof.Half

@[expose] public section

noncomputable section

namespace Cert.Entry
open Idealize.ShloMosaic Cert.Byte Cert.Half

/-- The product at row `b`, output `o`, super-block `n`, sub-block `p`, place `i`: the activation times the weight times
the sub-block's scale times the super-block's half. The weight's low bits are in half `p / 8` of the super-block's low
bytes, its high bits in the same half of the high bytes. -/
def entry (x : Fin 32 → Fin 5120 → EReal) (ql : Fin 35840 → Fin 20 → Fin 2 → Fin 64 → BitVec 8)
    (qh : Fin 35840 → Fin 20 → Fin 2 → Fin 32 → BitVec 8) (sc : Fin 35840 → Fin 20 → Fin 16 → BitVec 8)
    (d : Fin 35840 → Fin 20 → BitVec 16) (b : Fin 32) (o : Fin 35840) (n : Fin 20) (p i : Fin 16) : EReal :=
  x b ⟨n.val * 256 + (p.val * 16 + i.val), by have := n.isLt; have := p.isLt; have := i.isLt; omega⟩
    * ((((weight
          (ql o n ⟨p.val / 8, by have := p.isLt; omega⟩
            ⟨p.val / 2 % 2 * 32 + (p.val % 2 * 16 + i.val), by have := i.isLt; omega⟩)
          (qh o n ⟨p.val / 8, by have := p.isLt; omega⟩ ⟨p.val % 2 * 16 + i.val, by have := i.isLt; omega⟩)
          (Fin.ofNat 4 (p.val / 2)) : ℤ) : ℝ) : EReal)
      * ((((sc o n p).toInt : ℝ) : EReal) * kHalf (d o n)))

/-- The result's entry: the sum of all products. -/
def total (x : Fin 32 → Fin 5120 → EReal) (ql : Fin 35840 → Fin 20 → Fin 2 → Fin 64 → BitVec 8)
    (qh : Fin 35840 → Fin 20 → Fin 2 → Fin 32 → BitVec 8) (sc : Fin 35840 → Fin 20 → Fin 16 → BitVec 8)
    (d : Fin 35840 → Fin 20 → BitVec 16) (b : Fin 32) (o : Fin 35840) : EReal :=
  ∑ n : Fin 20, ∑ p : Fin 16, ∑ i : Fin 16, entry x ql qh sc d b o n p i

end Cert.Entry
-- ==== Proof.Final.lean ====
/- What the kernel's result array ends holding. -/
module

public import proofs.«01_k».proof.Proof.Block
public import proofs.«01_k».proof.Proof.Blocks
public import proofs.«01_k».proof.Proof.Entry

@[expose] public section

set_option maxRecDepth 8192

noncomputable section

namespace Cert.KernelIdeal.Trip
open Idealize.ShloMosaic Idealize.ShloMosaic.TcCoe Cert.KernelIdeal Cert.KernelIdeal.Gen Cert.Byte Cert.Half Cert.Entry
open Idealize.SL Idealize.SL.Sem
open Idealize.ShloMosaic.Pipeline (Dat)

variable (m : (ℓ : Loc nD τ sig) → Buf (Elt Ideal) ℓ)

/-- A product of block `t` is a product over the arguments. -/
theorem outTerm_eq (c : Dev nD) (t : Fin cfg0.N) (b : Fin 32) (col : Fin 1024) (n : Fin 20) (p i : Fin 16) :
    outTerm (iblk m c 0 t) (iblk m c 1 t) (iblk m c 2 t) (iblk m c 3 t) (iblk m c 4 t) b col n p i
      = entry (fun b k => m ((c : Thread nD τ).loc main_arg0) (ix3 b 0 k))
          (fun o n h r => m ((c : Thread nD τ).loc main_arg1) (ix4 o n h r))
          (fun o n h r => m ((c : Thread nD τ).loc main_arg2) (ix4 o n h r))
          (fun o n p => m ((c : Thread nD τ).loc main_arg3) (ix3 o n p))
          (fun o n => m ((c : Thread nD τ).loc main_arg4) (ix2 o n)) b (colAt t col) n p i := by
  have hn := n.isLt
  have hp := p.isLt
  have hi := i.isLt
  unfold outTerm entry
  refine congrArg₂ (fun a b : EReal => a * b) (blk0 m c t b _) ?_
  refine congrArg₂ (fun a b : EReal => a * b) ?_ ?_
  · refine congrArg (fun z : ℤ => ((z : ℝ) : EReal)) ?_
    refine congrArg₂ (fun a w => weight a w (Fin.ofNat 4 (p.val / 2))) ((blk1 m c t _ col).trans ?_) ((blk2 m c t _ col).trans ?_)
    · congr 2 <;> (apply Fin.ext; dsimp only; omega)
    · congr 2 <;> (apply Fin.ext; dsimp only; omega)
  · exact congrArg₂ (fun (a : BitVec 8) (b : BitVec 16) => (((a.toInt : ℝ) : EReal) * kHalf b))
      (blk3 m c t n p col) (blk4 m c t n col)

/-- The result array: every entry the sum of its products. -/
def result (c : Dev nD) : Buf (Elt Ideal) ((c : Thread nD τ).loc main_v7) := fun y =>
  total (fun b k => m ((c : Thread nD τ).loc main_arg0) (ix3 b 0 k))
    (fun o n h r => m ((c : Thread nD τ).loc main_arg1) (ix4 o n h r))
    (fun o n h r => m ((c : Thread nD τ).loc main_arg2) (ix4 o n h r))
    (fun o n p => m ((c : Thread nD τ).loc main_arg3) (ix3 o n p))
    (fun o n => m ((c : Thread nD τ).loc main_arg4) (ix2 o n)) (y 0) (y 1)

/-- The result array after the run. -/
theorem final (c : Dev nD) : (dats m 0 c).arrAt 5 cfg0.N = result m c := by
  refine (dats m 0 c).arrAt_eq_of_covers 5 (result m c) (by decide +kernel) fun t hf y => ?_
  blk_simp
  rw [after0_5]
  unfold outsAt0
  rw [out_eq]
  obtain ⟨b, col, rfl⟩ : ∃ (b : Fin 32) (col : Fin 1024), y = ix2 b col := ⟨y 0, y 1, by
    funext a; fin_cases a <;> rfl⟩
  have hE : (win0_5.blk t).view.emb (ix2 b col) = ix2 b (colAt t col) := by
    blk_ext [idx t, colAt]
  refine Eq.trans ?_ (congrArg (result m c) hE.symm)
  exact Finset.sum_congr rfl fun n _ => Finset.sum_congr rfl fun p _ => Finset.sum_congr rfl fun i _ =>
    outTerm_eq m c t b col n p i

end Cert.KernelIdeal.Trip
-- ==== Proof.Contr.lean ====
/- Contractions over four axes: the sum over the contraction's indices is the sum over the four coordinates. -/
module

public import Idealize.ShloMosaic.Lib.Pointwise
public import Idealize.ShloMosaic.Lib.ValueIdxRank6

@[expose] public section

namespace Idealize.ShloMosaic

/-- The row-major position of an index of seven axes. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (rowMajorPi d i).val = _
  rw [rowMajorPi_succ_val, rowMajorPi_succ_val, rowMajorPi_succ_val, rowMajorPi_succ_val, rowMajorPi_succ_val,
    rowMajorPi_succ_val, rowMajorPi_succ_val]
  simp [rowMajorPi_zero, Fin.prod_univ_succ, Nat.add_mul, Nat.mul_assoc, Nat.add_assoc]

end Idealize.ShloMosaic

namespace Idealize.ShloMosaic.DotDims

variable {sl sr so : Shape} (d : DotDims sl sr so)

/-- A contraction over four axes has an index of rank four. -/
theorem rank_contr₄ {a b c e : Fin sl.rank} (hc : d.lhsContracting = [a, b, c, e]) : d.contr.rank = 4 := by
  rw [d.rank_contr, hc]; rfl

/-- The sizes of the four contracted axes. -/
theorem size_contr₄ {a b c e : Fin sl.rank} (hc : d.lhsContracting = [a, b, c, e]) {K : Fin 4 → Nat}
    (h0 : sl.size a = K 0) (h1 : sl.size b = K 1) (h2 : sl.size c = K 2) (h3 : sl.size e = K 3)
    (p : Fin d.contr.rank) : K (p.cast (d.rank_contr₄ hc)) = d.contr.size p := by
  have : ∀ (l : List (Fin sl.rank)) (_ : l = [a, b, c, e]) (p : Fin (l.map sl.size).length)
      (h : (l.map sl.size).length = 4), K (p.cast h) = (l.map sl.size)[p] := by
    rintro _ rfl ⟨p, hp⟩ h
    have hp' : p < 4 := by simpa using hp
    match p, hp' with
    | 0, _ => exact h0.symm
    | 1, _ => exact h1.symm
    | 2, _ => exact h2.symm
    | 3, _ => exact h3.symm
  exact this _ hc p (d.rank_contr₄ hc)

/-- The contraction index of a four-axis contraction, from its coordinates. -/
def contrIdx₄ {a b c e : Fin sl.rank} (hc : d.lhsContracting = [a, b, c, e]) {K : Fin 4 → Nat}
    (h0 : sl.size a = K 0) (h1 : sl.size b = K 1) (h2 : sl.size c = K 2) (h3 : sl.size e = K 3)
    (k : (i : Fin 4) → Fin (K i)) : d.contr.Idx :=
  fun p => (k (p.cast (d.rank_contr₄ hc))).cast (d.size_contr₄ hc h0 h1 h2 h3 p)

/-- Four-axis contraction indices are the families of coordinates on those axes. -/
def contrEquiv₄ {a b c e : Fin sl.rank} (hc : d.lhsContracting = [a, b, c, e]) {K : Fin 4 → Nat}
    (h0 : sl.size a = K 0) (h1 : sl.size b = K 1) (h2 : sl.size c = K 2) (h3 : sl.size e = K 3) :
    ((i : Fin 4) → Fin (K i)) ≃ d.contr.Idx where
  toFun := d.contrIdx₄ hc h0 h1 h2 h3
  invFun kk := fun i => (kk (i.cast (d.rank_contr₄ hc).symm)).cast (d.size_contr₄ hc h0 h1 h2 h3 _).symm
  left_inv _ := rfl
  right_inv _ := rfl

/-- Families of four coordinates are quadruples. -/
def quad (K₀ K₁ K₂ K₃ : Nat) : Fin K₀ × Fin K₁ × Fin K₂ × Fin K₃ ≃ ((i : Fin 4) → Fin ((![K₀, K₁, K₂, K₃] : Fin 4 → Nat) i)) where
  toFun k := fun i => match i with
    | 0 => k.1
    | 1 => k.2.1
    | 2 => k.2.2.1
    | 3 => k.2.2.2
  invFun f := (f 0, f 1, f 2, f 3)
  left_inv _ := rfl
  right_inv f := by
    funext i
    match i with
    | 0 => rfl
    | 1 => rfl
    | 2 => rfl
    | 3 => rfl

/-- A sum over a four-axis contraction's indices is the sum over the four coordinates. -/
theorem sum_contr₄ {M : Type*} [AddCommMonoid M] {a b c e : Fin sl.rank} (hc : d.lhsContracting = [a, b, c, e])
    {K₀ K₁ K₂ K₃ : Nat} (h0 : sl.size a = K₀) (h1 : sl.size b = K₁) (h2 : sl.size c = K₂) (h3 : sl.size e = K₃)
    (f : d.contr.Idx → M) :
    ∑ kk : d.contr.Idx, f kk = ∑ k₀ : Fin K₀, ∑ k₁ : Fin K₁, ∑ k₂ : Fin K₂, ∑ k₃ : Fin K₃,
      f (d.contrIdx₄ (K := ![K₀, K₁, K₂, K₃]) hc h0 h1 h2 h3 (quad K₀ K₁ K₂ K₃ (k₀, k₁, k₂, k₃))) := by
  rw [← Fintype.sum_equiv ((quad K₀ K₁ K₂ K₃).trans (d.contrEquiv₄ (K := ![K₀, K₁, K₂, K₃]) hc h0 h1 h2 h3))
    (fun k => f (d.contrIdx₄ (K := ![K₀, K₁, K₂, K₃]) hc h0 h1 h2 h3 (quad K₀ K₁ K₂ K₃ k))) f fun _ => rfl]
  simp only [Fintype.sum_prod_type]

end Idealize.ShloMosaic.DotDims
-- ==== Proof.Reference.lean ====
/- The reference's four contractions, term by term. -/
module

public import proofs.«01_k».proof.Proof.Contr
public import proofs.«01_k».proof.Proof.Entry
public import proofs.«01_k».proof.Proof.Gen.ReferenceIdeal.Read
public import Idealize.ShloMosaic.Lib.Pointwise

@[expose] public section

noncomputable section

namespace Cert.ReferenceIdeal.Sum
open Idealize.ShloMosaic Idealize.ShloMosaic.TcCoe Cert.ReferenceIdeal Cert.ReferenceIdeal.Gen Cert.ReferenceIdeal.Read Cert.Byte Cert.Half Cert.Entry

/-- Field `f` of the activations, at an index. -/
theorem act_apply (f : Fin 4) (x : S32x1x5120.Idx → EReal) (h1 : S32x1x5120.ShapeCasts S32x1x20x2x4x2x16)
    (h2 : S32x1x20x2x4x2x16.Slices ![0, 0, 0, 0, f.val, 0, 0] S32x1x20x2x1x2x16)
    (h3 : S32x1x20x2x1x2x16.ShapeCasts S32x1x20x2x2x16) (b : Fin 32) (n : Fin 20) (h s : Fin 2) (i : Fin 16) :
    shapeCast S32x1x20x2x2x16 (extractStridedSlice S32x1x20x2x1x2x16 ![0, 0, 0, 0, f.val, 0, 0]
        (shapeCast S32x1x20x2x4x2x16 x h1) h2) h3 (ix6 b 0 n h s i)
      = x (ix3 b 0 ⟨n.val * 256 + ((h.val * 8 + f.val * 2 + s.val) * 16 + i.val), by
          have := n.isLt; have := h.isLt; have := f.isLt; have := s.isLt; have := i.isLt; omega⟩) := by
  have hb := b.isLt
  have hn := n.isLt
  have hh := h.isLt
  have hs := s.isLt
  have hi := i.isLt
  have hf := f.isLt
  rw [shapeCast_apply _ h3 _ (ix7 b 0 n h 0 s i) ?_,
    extractStridedSlice_apply _ _ h2 _ (ix7 b 0 n h f s i) ?_,
    shapeCast_apply _ h1 _ (ix3 b 0 ⟨n.val * 256 + ((h.val * 8 + f.val * 2 + s.val) * 16 + i.val), by omega⟩) ?_]
  · rw [Shape.rowMajor_val_three, Shape.rowMajor_val_seven]
    show (b.val * 1 + 0) * 5120 + (n.val * 256 + ((h.val * 8 + f.val * 2 + s.val) * 16 + i.val))
      = (((((b.val * 1 + 0) * 20 + n.val) * 2 + h.val) * 4 + f.val) * 2 + s.val) * 16 + i.val
    omega
  · intro a
    fin_cases a
    all_goals simp
  · rw [Shape.rowMajor_val_seven, Shape.rowMajor_val_six]
    show (((((b.val * 1 + 0) * 20 + n.val) * 2 + h.val) * 1 + 0) * 2 + s.val) * 16 + i.val
      = ((((b.val * 1 + 0) * 20 + n.val) * 2 + h.val) * 2 + s.val) * 16 + i.val
    omega

/-- The contraction at an index: the sum over half, sub-block, place and super-block. -/
theorem dot_apply (L : S32x1x20x2x2x16.Idx → EReal) (R : S35840x20x2x2x16.Idx → EReal) (b : Fin 32) (o : Fin 35840) :
    Host.dotGeneral (F := Ideal) (φ₁ := .bf16) (φ₂ := .bf16)
        dot_S32x1x20x2x2x16_S35840x20x2x2x16_S32x1x35840_3452_2341_01_0_n_n none L R (ix3 b 0 o)
      = (∑ h : Fin 2, ∑ s : Fin 2, ∑ i : Fin 16, ∑ n : Fin 20, L (ix6 b 0 n h s i) * R (ix5 o n h s i) : EReal) := by
  simp only [Host.dotGeneral]
  rw [Ideal.dotGeneral_apply, DotDims.sum_contr₄ (K₀ := 2) (K₁ := 2) (K₂ := 16) (K₃ := 20) _ rfl rfl rfl rfl rfl]
  refine Finset.sum_congr rfl fun h _ => Finset.sum_congr rfl fun s _ => Finset.sum_congr rfl fun i _ =>
    Finset.sum_congr rfl fun n _ => ?_
  refine congrArg₂ (fun a b : EReal => a * b) (congrArg L ?_) (congrArg R ?_)
  · funext a
    fin_cases a <;> rfl
  · funext a
    fin_cases a <;> rfl

/-- The reference's decoding of the halves, at an index. -/
theorem half_apply (x4 : IVec S35840x20 16) (i : S35840x20.Idx) : val_main_v39 (F := Ideal) x4 i = rHalf (x4 i) := rfl

/-- The scale of a sub-block. -/
theorem scale_apply (x3 : IVec S35840x20x16 8) (x4 : IVec S35840x20 16) (o : Fin 35840) (n : Fin 20) (h : Fin 2)
    (f : Fin 4) (s : Fin 2) : val_main_v44 (F := Ideal) x3 x4 (ix5 o n h f s)
      = (kHalf (x4 (ix2 o n)) * (((x3 (ix3 o n ⟨h.val * 8 + f.val * 2 + s.val, by
          have := h.isLt; have := f.isLt; have := s.isLt; omega⟩)).toInt : ℝ) : EReal) : EReal) := by
  have hh := h.isLt
  have hf := f.isLt
  have hs := s.isLt
  have hn := n.isLt
  have hi : idx_main_v44 (ix5 o n h f s) = ix3 o n ⟨h.val * 8 + f.val * 2 + s.val, by omega⟩ := by
    funext a
    fin_cases a <;> (apply Fin.ext; simp; omega)
  have hj : idx_main_v40 (idx_main_v41 (ix3 o n ⟨h.val * 8 + f.val * 2 + s.val, by omega⟩)) = ix2 o n := by
    funext a
    fin_cases a <;> rfl
  rw [val_main_v44_apply, hi, val_main_v43_apply, val_main_v42_apply, val_main_v41_apply, val_main_v40_apply, half_apply,
    hj, ← kHalf_eq, val_main_v1_apply, val_main_v0_apply]
  refine congrArg₂ (fun a b : EReal => a * b) rfl (congrArg (fun z : ℤ => ((z : ℝ) : EReal)) ?_)
  exact BitVec.toInt_signExtend_of_le (by decide)

/-- Rows of a super-block's half: the index of the thirty-two rows as sub-block and place. -/
theorem row_eq (o : Fin 35840) (n : Fin 20) (h s : Fin 2) (i : Fin 16) :
    idx_main_v92 (ix5 o n h s i) = ix4 o n h ⟨s.val * 16 + i.val, by have := s.isLt; have := i.isLt; omega⟩ := by
  have hh := h.isLt
  have hs := s.isLt
  have hn := n.isLt
  have hi := i.isLt
  funext a
  fin_cases a <;> (apply Fin.ext; simp; omega)

/-- The lower thirty-two low bytes of a half. -/
theorem low_apply (x1 : IVec S35840x20x2x64 8) (o : Fin 35840) (n : Fin 20) (h : Fin 2) (r : Fin 32) :
    val_main_v47 (F := Ideal) x1 (ix4 o n h r) = (x1 (ix4 o n h ⟨0 + r.val, by have := r.isLt; omega⟩)).setWidth 32 := by
  have e : idx_main_v47 (ix4 o n h r) = ix4 o n h ⟨0 + r.val, by have := r.isLt; omega⟩ := by
    funext a
    fin_cases a
    · rfl
    · rfl
    · rfl
    · exact Fin.ext (Nat.zero_add _).symm
  rw [val_main_v47_apply, e, val_main_v45_apply]

/-- The upper thirty-two low bytes of a half. -/
theorem high_apply (x1 : IVec S35840x20x2x64 8) (o : Fin 35840) (n : Fin 20) (h : Fin 2) (r : Fin 32) :
    val_main_v48 (F := Ideal) x1 (ix4 o n h r) = (x1 (ix4 o n h ⟨32 + r.val, by have := r.isLt; omega⟩)).setWidth 32 := by
  have e : idx_main_v48 (ix4 o n h r) = ix4 o n h ⟨32 + r.val, by have := r.isLt; omega⟩ := by
    funext a
    fin_cases a <;> rfl
  rw [val_main_v48_apply, e, val_main_v45_apply]

/-- Field 0's code. -/
theorem code0 (x1 : IVec S35840x20x2x64 8) (x2 : IVec S35840x20x2x32 8) (o : Fin 35840) (n : Fin 20) (h : Fin 2) (r : Fin 32) :
    val_main_v55 (F := Ideal) x1 x2 (ix4 o n h r)
      = rCode (x1 (ix4 o n h ⟨0 + r.val, by have := r.isLt; omega⟩)) (x2 (ix4 o n h r)) 0 := by
  simp only [val_main_v55_apply, val_main_v50_apply, val_main_v54_apply, val_main_v49_apply, val_main_v52_apply, val_main_v53_apply, val_main_v51_apply, val_main_v46_apply, val_main_c_14_apply, val_main_c_15_apply, val_main_c_16_apply, low_apply]
  rfl

/-- Field 1's code. -/
theorem code1 (x1 : IVec S35840x20x2x64 8) (x2 : IVec S35840x20x2x32 8) (o : Fin 35840) (n : Fin 20) (h : Fin 2) (r : Fin 32) :
    val_main_v64 (F := Ideal) x1 x2 (ix4 o n h r)
      = rCode (x1 (ix4 o n h ⟨32 + r.val, by have := r.isLt; omega⟩)) (x2 (ix4 o n h r)) 1 := by
  simp only [val_main_v64_apply, val_main_v57_apply, val_main_v63_apply, val_main_v56_apply, val_main_v61_apply, val_main_v62_apply, val_main_v60_apply, val_main_v59_apply, val_main_v58_apply, val_main_v46_apply, val_main_c_17_apply, val_main_c_18_apply, val_main_c_19_apply, val_main_c_20_apply, high_apply]
  rfl

/-- Field 2's code. -/
theorem code2 (x1 : IVec S35840x20x2x64 8) (x2 : IVec S35840x20x2x32 8) (o : Fin 35840) (n : Fin 20) (h : Fin 2) (r : Fin 32) :
    val_main_v73 (F := Ideal) x1 x2 (ix4 o n h r)
      = rCode (x1 (ix4 o n h ⟨0 + r.val, by have := r.isLt; omega⟩)) (x2 (ix4 o n h r)) 2 := by
  simp only [val_main_v73_apply, val_main_v66_apply, val_main_v72_apply, val_main_v65_apply, val_main_v70_apply, val_main_v71_apply, val_main_v69_apply, val_main_v68_apply, val_main_v67_apply, val_main_v46_apply, val_main_c_21_apply, val_main_c_22_apply, val_main_c_23_apply, val_main_c_24_apply, low_apply]
  rfl

/-- Field 3's code. -/
theorem code3 (x1 : IVec S35840x20x2x64 8) (x2 : IVec S35840x20x2x32 8) (o : Fin 35840) (n : Fin 20) (h : Fin 2) (r : Fin 32) :
    val_main_v82 (F := Ideal) x1 x2 (ix4 o n h r)
      = rCode (x1 (ix4 o n h ⟨32 + r.val, by have := r.isLt; omega⟩)) (x2 (ix4 o n h r)) 3 := by
  simp only [val_main_v82_apply, val_main_v75_apply, val_main_v81_apply, val_main_v74_apply, val_main_v79_apply, val_main_v80_apply, val_main_v78_apply, val_main_v77_apply, val_main_v76_apply, val_main_v46_apply, val_main_c_25_apply, val_main_c_26_apply, val_main_c_27_apply, val_main_c_28_apply, high_apply]
  rfl

/-- One weight times its scale: field `f` of half `h`, sub-block `s`, place `i`. -/
def side (x1 : IVec S35840x20x2x64 8) (x2 : IVec S35840x20x2x32 8) (x3 : IVec S35840x20x16 8) (x4 : IVec S35840x20 16)
    (o : Fin 35840) (n : Fin 20) (h : Fin 2) (f : Fin 4) (s : Fin 2) (i : Fin 16) : EReal :=
  (((weight (x1 (ix4 o n h ⟨f.val % 2 * 32 + (s.val * 16 + i.val), by have := s.isLt; have := i.isLt; omega⟩))
      (x2 (ix4 o n h ⟨s.val * 16 + i.val, by have := s.isLt; have := i.isLt; omega⟩)) f : ℤ) : ℝ) : EReal)
    * (kHalf (x4 (ix2 o n)) * (((x3 (ix3 o n ⟨h.val * 8 + f.val * 2 + s.val, by
        have := h.isLt; have := f.isLt; have := s.isLt; omega⟩)).toInt : ℝ) : EReal))

/-- Field 0's weights times scales. -/
theorem side0 (x1 : IVec S35840x20x2x64 8) (x2 : IVec S35840x20x2x32 8) (x3 : IVec S35840x20x16 8) (x4 : IVec S35840x20 16)
    (o : Fin 35840) (n : Fin 20) (h s : Fin 2) (i : Fin 16) :
    val_main_v95 (F := Ideal) x1 x2 x3 x4 (ix5 o n h s i) = side x1 x2 x3 x4 o n h 0 s i := by
  have hs := s.isLt
  have hi := i.isLt
  have hk : idx_main_v86 (idx_main_v87 (idx_main_v93 (idx_main_v94 (ix5 o n h s i)))) = ix5 o n h 0 s := by
    funext a
    fin_cases a <;> (apply Fin.ext; simp; try omega)
  rw [val_main_v95_apply, val_main_v92_apply, val_main_v91_apply, val_main_v90_apply, val_main_v89_apply, val_main_v88_apply, val_main_cst_29_apply,
    val_main_v94_apply, val_main_v93_apply, val_main_v87_apply, val_main_v86_apply, hk, scale_apply,
    show idx_main_v92 (ix5 o n h s i) = _ from row_eq o n h s i, code0, rweight]
  rfl

/-- Field 1's weights times scales. -/
theorem side1 (x1 : IVec S35840x20x2x64 8) (x2 : IVec S35840x20x2x32 8) (x3 : IVec S35840x20x16 8) (x4 : IVec S35840x20 16)
    (o : Fin 35840) (n : Fin 20) (h s : Fin 2) (i : Fin 16) :
    val_main_v108 (F := Ideal) x1 x2 x3 x4 (ix5 o n h s i) = side x1 x2 x3 x4 o n h 1 s i := by
  have hs := s.isLt
  have hi := i.isLt
  have hk : idx_main_v99 (idx_main_v100 (idx_main_v106 (idx_main_v107 (ix5 o n h s i)))) = ix5 o n h 1 s := by
    funext a
    fin_cases a <;> (apply Fin.ext; simp; try omega)
  rw [val_main_v108_apply, val_main_v105_apply, val_main_v104_apply, val_main_v103_apply, val_main_v102_apply, val_main_v101_apply, val_main_cst_30_apply,
    val_main_v107_apply, val_main_v106_apply, val_main_v100_apply, val_main_v99_apply, hk, scale_apply,
    show idx_main_v105 (ix5 o n h s i) = _ from row_eq o n h s i, code1, rweight]
  rfl

/-- Field 2's weights times scales. -/
theorem side2 (x1 : IVec S35840x20x2x64 8) (x2 : IVec S35840x20x2x32 8) (x3 : IVec S35840x20x16 8) (x4 : IVec S35840x20 16)
    (o : Fin 35840) (n : Fin 20) (h s : Fin 2) (i : Fin 16) :
    val_main_v122 (F := Ideal) x1 x2 x3 x4 (ix5 o n h s i) = side x1 x2 x3 x4 o n h 2 s i := by
  have hs := s.isLt
  have hi := i.isLt
  have hk : idx_main_v113 (idx_main_v114 (idx_main_v120 (idx_main_v121 (ix5 o n h s i)))) = ix5 o n h 2 s := by
    funext a
    fin_cases a <;> (apply Fin.ext; simp; try omega)
  rw [val_main_v122_apply, val_main_v119_apply, val_main_v118_apply, val_main_v117_apply, val_main_v116_apply, val_main_v115_apply, val_main_cst_31_apply,
    val_main_v121_apply, val_main_v120_apply, val_main_v114_apply, val_main_v113_apply, hk, scale_apply,
    show idx_main_v119 (ix5 o n h s i) = _ from row_eq o n h s i, code2, rweight]
  rfl

/-- Field 3's weights times scales. -/
theorem side3 (x1 : IVec S35840x20x2x64 8) (x2 : IVec S35840x20x2x32 8) (x3 : IVec S35840x20x16 8) (x4 : IVec S35840x20 16)
    (o : Fin 35840) (n : Fin 20) (h s : Fin 2) (i : Fin 16) :
    val_main_v136 (F := Ideal) x1 x2 x3 x4 (ix5 o n h s i) = side x1 x2 x3 x4 o n h 3 s i := by
  have hs := s.isLt
  have hi := i.isLt
  have hk : idx_main_v127 (idx_main_v128 (idx_main_v134 (idx_main_v135 (ix5 o n h s i)))) = ix5 o n h 3 s := by
    funext a
    fin_cases a <;> (apply Fin.ext; simp; try omega)
  rw [val_main_v136_apply, val_main_v133_apply, val_main_v132_apply, val_main_v131_apply, val_main_v130_apply, val_main_v129_apply, val_main_cst_32_apply,
    val_main_v135_apply, val_main_v134_apply, val_main_v128_apply, val_main_v127_apply, hk, scale_apply,
    show idx_main_v133 (ix5 o n h s i) = _ from row_eq o n h s i, code3, rweight]
  rfl

/-- The arguments' product at a row, an output, a super-block, a sub-block and a place. -/
abbrev ent (x0 : S32x1x5120.Idx → EReal) (x1 : IVec S35840x20x2x64 8) (x2 : IVec S35840x20x2x32 8)
    (x3 : IVec S35840x20x16 8) (x4 : IVec S35840x20 16) (b : Fin 32) (o : Fin 35840) (n : Fin 20) (p i : Fin 16) : EReal :=
  entry (fun b k => x0 (ix3 b 0 k)) (fun o n h r => x1 (ix4 o n h r)) (fun o n h r => x2 (ix4 o n h r))
    (fun o n p => x3 (ix3 o n p)) (fun o n => x4 (ix2 o n)) b o n p i

/-- Sub-block `s` of field `f` of half `h`, among the sixteen. -/
abbrev sub (h : Fin 2) (f : Fin 4) (s : Fin 2) : Fin 16 :=
  ⟨h.val * 8 + f.val * 2 + s.val, by have := h.isLt; have := f.isLt; have := s.isLt; omega⟩

/-- An activation times its weight and scale is the common product. -/
theorem product_eq (x0 : S32x1x5120.Idx → EReal) (x1 : IVec S35840x20x2x64 8) (x2 : IVec S35840x20x2x32 8)
    (x3 : IVec S35840x20x16 8) (x4 : IVec S35840x20 16) (b : Fin 32) (o : Fin 35840) (n : Fin 20) (h : Fin 2) (f : Fin 4)
    (s : Fin 2) (i : Fin 16) (q : Fin 5120) (hq : q.val = n.val * 256 + ((h.val * 8 + f.val * 2 + s.val) * 16 + i.val)) :
    x0 (ix3 b 0 q) * side x1 x2 x3 x4 o n h f s i = ent x0 x1 x2 x3 x4 b o n (sub h f s) i := by
  have hh := h.isLt
  have hf := f.isLt
  have hs := s.isLt
  have hi := i.isLt
  have hn := n.isLt
  have e0 : q = ⟨n.val * 256 + ((h.val * 8 + f.val * 2 + s.val) * 16 + i.val), by omega⟩ := Fin.ext hq
  have e1 : (⟨(sub h f s).val / 8, by have := (sub h f s).isLt; omega⟩ : Fin 2) = h := by
    apply Fin.ext; dsimp only; omega
  have e2 : (⟨(sub h f s).val / 2 % 2 * 32 + ((sub h f s).val % 2 * 16 + i.val), by omega⟩ : Fin 64)
      = ⟨f.val % 2 * 32 + (s.val * 16 + i.val), by omega⟩ := by
    apply Fin.ext; dsimp only; omega
  have e3 : (⟨(sub h f s).val % 2 * 16 + i.val, by omega⟩ : Fin 32) = ⟨s.val * 16 + i.val, by omega⟩ := by
    apply Fin.ext; dsimp only; omega
  have e4 : Fin.ofNat 4 ((sub h f s).val / 2) = f := by
    apply Fin.ext; simp only [Fin.val_ofNat]; omega
  unfold ent entry side
  rw [e0, e1, e2, e3, e4, mul_comm (kHalf _)]

/-- The sum over a field's half, sub-block, place and super-block. -/
abbrev part (E : Fin 20 → Fin 16 → Fin 16 → EReal) (f : Fin 4) : EReal :=
  ∑ h : Fin 2, ∑ s : Fin 2, ∑ i : Fin 16, ∑ n : Fin 20, E n (sub h f s) i

/-- The four fields' sums, in the order the reference adds them, are the whole sum. -/
theorem parts_eq (E : Fin 20 → Fin 16 → Fin 16 → EReal) :
    part E 0 + part E 1 + part E 2 + part E 3 = ∑ n : Fin 20, ∑ p : Fin 16, ∑ i : Fin 16, E n p i := by
  have hl : (∑ n : Fin 20, ∑ p : Fin 16, ∑ i : Fin 16, E n p i) = ∑ p : Fin 16, ∑ i : Fin 16, ∑ n : Fin 20, E n p i := by
    rw [Finset.sum_comm]
    exact Finset.sum_congr rfl fun p _ => Finset.sum_comm
  rw [hl]
  have hg : ∀ G : Fin 16 → EReal, (∑ h : Fin 2, ∑ s : Fin 2, G (sub h 0 s)) + (∑ h : Fin 2, ∑ s : Fin 2, G (sub h 1 s))
      + (∑ h : Fin 2, ∑ s : Fin 2, G (sub h 2 s)) + (∑ h : Fin 2, ∑ s : Fin 2, G (sub h 3 s)) = ∑ p : Fin 16, G p := by
    intro G
    simp only [Fin.sum_univ_two, Fin.sum_univ_succ (n := 15), Fin.sum_univ_succ (n := 14), Fin.sum_univ_succ (n := 13),
      Fin.sum_univ_succ (n := 12), Fin.sum_univ_succ (n := 11), Fin.sum_univ_succ (n := 10), Fin.sum_univ_succ (n := 9),
      Fin.sum_univ_succ (n := 8), Fin.sum_univ_eight]
    show (G 0 + G 1) + (G 8 + G 9) + ((G 2 + G 3) + (G 10 + G 11)) + ((G 4 + G 5) + (G 12 + G 13))
      + ((G 6 + G 7) + (G 14 + G 15)) = G 0 + (G 1 + (G 2 + (G 3 + (G 4 + (G 5 + (G 6 + (G 7 + (G 8 + G 9 + G 10 + G 11
        + G 12 + G 13 + G 14 + G 15))))))))
    ac_rfl
  exact hg fun p => ∑ i : Fin 16, ∑ n : Fin 20, E n p i

/-- Field 0's contraction. -/
theorem dot0 (x0 : S32x1x5120.Idx → EReal) (x1 : IVec S35840x20x2x64 8) (x2 : IVec S35840x20x2x32 8)
    (x3 : IVec S35840x20x16 8) (x4 : IVec S35840x20 16) (b : Fin 32) (o : Fin 35840) :
    val_main_v96 (F := Ideal) x0 x1 x2 x3 x4 (ix3 b 0 o) = part (ent x0 x1 x2 x3 x4 b o) 0 := by
  refine (dot_apply _ _ b o).trans ?_
  refine Finset.sum_congr rfl fun h _ => Finset.sum_congr rfl fun s _ => Finset.sum_congr rfl fun i _ =>
    Finset.sum_congr rfl fun n _ => ?_
  rw [side0]
  exact (congrArg (fun a : EReal => a * _) (act_apply 0 x0 _ _ _ b n h s i)).trans
    (product_eq x0 x1 x2 x3 x4 b o n h 0 s i _ rfl)

/-- Field 1's contraction. -/
theorem dot1 (x0 : S32x1x5120.Idx → EReal) (x1 : IVec S35840x20x2x64 8) (x2 : IVec S35840x20x2x32 8)
    (x3 : IVec S35840x20x16 8) (x4 : IVec S35840x20 16) (b : Fin 32) (o : Fin 35840) :
    val_main_v109 (F := Ideal) x0 x1 x2 x3 x4 (ix3 b 0 o) = part (ent x0 x1 x2 x3 x4 b o) 1 := by
  refine (dot_apply _ _ b o).trans ?_
  refine Finset.sum_congr rfl fun h _ => Finset.sum_congr rfl fun s _ => Finset.sum_congr rfl fun i _ =>
    Finset.sum_congr rfl fun n _ => ?_
  rw [side1]
  exact (congrArg (fun a : EReal => a * _) (act_apply 1 x0 _ _ _ b n h s i)).trans
    (product_eq x0 x1 x2 x3 x4 b o n h 1 s i _ rfl)

/-- Field 2's contraction. -/
theorem dot2 (x0 : S32x1x5120.Idx → EReal) (x1 : IVec S35840x20x2x64 8) (x2 : IVec S35840x20x2x32 8)
    (x3 : IVec S35840x20x16 8) (x4 : IVec S35840x20 16) (b : Fin 32) (o : Fin 35840) :
    val_main_v123 (F := Ideal) x0 x1 x2 x3 x4 (ix3 b 0 o) = part (ent x0 x1 x2 x3 x4 b o) 2 := by
  refine (dot_apply _ _ b o).trans ?_
  refine Finset.sum_congr rfl fun h _ => Finset.sum_congr rfl fun s _ => Finset.sum_congr rfl fun i _ =>
    Finset.sum_congr rfl fun n _ => ?_
  rw [side2]
  exact (congrArg (fun a : EReal => a * _) (act_apply 2 x0 _ _ _ b n h s i)).trans
    (product_eq x0 x1 x2 x3 x4 b o n h 2 s i _ rfl)

/-- Field 3's contraction. -/
theorem dot3 (x0 : S32x1x5120.Idx → EReal) (x1 : IVec S35840x20x2x64 8) (x2 : IVec S35840x20x2x32 8)
    (x3 : IVec S35840x20x16 8) (x4 : IVec S35840x20 16) (b : Fin 32) (o : Fin 35840) :
    val_main_v137 (F := Ideal) x0 x1 x2 x3 x4 (ix3 b 0 o) = part (ent x0 x1 x2 x3 x4 b o) 3 := by
  refine (dot_apply _ _ b o).trans ?_
  refine Finset.sum_congr rfl fun h _ => Finset.sum_congr rfl fun s _ => Finset.sum_congr rfl fun i _ =>
    Finset.sum_congr rfl fun n _ => ?_
  rw [side3]
  exact (congrArg (fun a : EReal => a * _) (act_apply 3 x0 _ _ _ b n h s i)).trans
    (product_eq x0 x1 x2 x3 x4 b o n h 3 s i _ rfl)

/-- The reference's result at an index is the common sum. -/
theorem result_apply (x0 : S32x1x5120.Idx → EReal) (x1 : IVec S35840x20x2x64 8) (x2 : IVec S35840x20x2x32 8)
    (x3 : IVec S35840x20x16 8) (x4 : IVec S35840x20 16) (b : Fin 32) (o : Fin 35840) :
    val_main_v140 (F := Ideal) x0 x1 x2 x3 x4 (ix2 b o)
      = total (fun b k => x0 (ix3 b 0 k)) (fun o n h r => x1 (ix4 o n h r)) (fun o n h r => x2 (ix4 o n h r))
          (fun o n p => x3 (ix3 o n p)) (fun o n => x4 (ix2 o n)) b o := by
  have h0 := b.isLt
  have h1 := o.isLt
  have e : idx_main_v140 (ix2 b o) = ix3 b 0 o := by
    funext a
    fin_cases a
    · apply Fin.ext
      show (b.val * 35840 + o.val) / 35840 = b.val
      omega
    · rfl
    · apply Fin.ext
      show (b.val * 35840 + o.val) % 35840 = o.val
      omega
  rw [val_main_v140_apply, e, val_main_v139_apply, val_main_v138_apply, val_main_v124_apply, val_main_v110_apply]
  refine Eq.trans ?_ (parts_eq (ent x0 x1 x2 x3 x4 b o))
  rw [← dot0, ← dot1, ← dot2, ← dot3]
  rfl

/-- The reference's result is the common sum. -/
theorem result_eq (x0 : S32x1x5120.Idx → EReal) (x1 : IVec S35840x20x2x64 8) (x2 : IVec S35840x20x2x32 8)
    (x3 : IVec S35840x20x16 8) (x4 : IVec S35840x20 16) :
    val_main_v140 (F := Ideal) x0 x1 x2 x3 x4
      = fun y => total (fun b k => x0 (ix3 b 0 k)) (fun o n h r => x1 (ix4 o n h r)) (fun o n h r => x2 (ix4 o n h r))
          (fun o n p => x3 (ix3 o n p)) (fun o n => x4 (ix2 o n)) (y 0) (y 1) := by
  funext y
  have e : y = ix2 (y 0) (y 1) := by
    funext a
    fin_cases a <;> rfl
  exact (congrArg _ e).trans (result_apply x0 x1 x2 x3 x4 (y 0) (y 1))

end Cert.ReferenceIdeal.Sum
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The reference ends with every semaphore counter at zero and its arguments unchanged. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On equal arguments the kernel and the reference end with equal results: every entry of either is the same sum of
products. -/
theorem equal_results : Cert.algebraic_KernelIdeal_ReferenceIdeal := fun m g m' g' _ hm =>
  ⟨fun c => Cert.KernelIdeal.Trip.result m c,
    (θ_run Cert.KernelIdeal.defs _ _).mono (fun r h c => ⟨(h c).1.trans (Cert.KernelIdeal.Trip.final m c), (h c).2⟩)
      (Cert.KernelIdeal.Value.run_blocks (F := Ideal) m g),
    (θ_run Cert.ReferenceIdeal.defs _ _).mono (fun r h c => ⟨(h c).1.trans (by
        rw [Cert.ReferenceIdeal.Read.val_main_v140_eq, (hm c).1, (hm c).2.1, (hm c).2.2.1, (hm c).2.2.2.1, (hm c).2.2.2.2]
        exact Cert.ReferenceIdeal.Sum.result_eq _ _ _ _ _), (h c).2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  equal_results⟩

end Cert.Proof

end
